-- ==== Defs.lean ====
def Pre_Kernel [hPre_text_in_vocab : Cert.Pre_text_in_vocab.Facts] (m : (ℓ : Loc Cert.Kernel.nD Cert.Kernel.τ Cert.Kernel.sig) → Buf (Elt Bits) ℓ) : Prop :=
  ∀ c : Dev Cert.Kernel.nD,
    (Cert.Pre_text_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_text_in_vocab : Cert.Pre_text_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_text_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_text_in_vocab_and_finite [hPre_text_in_vocab_and_finite : Cert.Pre_text_in_vocab_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_text_in_vocab_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_text_in_vocab_and_finite [hPre_text_in_vocab_and_finite : Cert.Pre_text_in_vocab_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_text_in_vocab_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_text_in_vocab : Cert.Pre_text_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_text_in_vocab : Cert.Pre_text_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_text_in_vocab_and_finite [hKernelIdeal : Cert.KernelIdeal.Facts] [hPre_text_in_vocab_and_finite : Cert.Pre_text_in_vocab_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_text_in_vocab_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_text_in_vocab_and_finite [hReferenceIdeal : Cert.ReferenceIdeal.Facts] [hPre_text_in_vocab_and_finite : Cert.Pre_text_in_vocab_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_text_in_vocab_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "fiftieth" .f32 0x3CA3D70A#32 ((50⁻¹ : ℝ) : EReal)

def algebraic_KernelIdeal_ReferenceIdeal_pre_text_in_vocab_and_finite [hKernelIdeal : Cert.KernelIdeal.Facts] [hReferenceIdeal : Cert.ReferenceIdeal.Facts] [hPre_text_in_vocab_and_finite : Cert.Pre_text_in_vocab_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_text_in_vocab_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_text_in_vocab : Cert.Pre_text_in_vocab.Facts) (hPre_text_in_vocab_and_finite : Cert.Pre_text_in_vocab_and_finite.Facts),
    quiescent_Kernel (hKernel := hKernel) (hPre_text_in_vocab := hPre_text_in_vocab)
    ∧ quiescent_KernelIdeal (hKernelIdeal := hKernelIdeal) (hPre_text_in_vocab := hPre_text_in_vocab)
    ∧ quiescent_KernelIdeal_pre_text_in_vocab_and_finite (hKernelIdeal := hKernelIdeal) (hPre_text_in_vocab_and_finite := hPre_text_in_vocab_and_finite)
    ∧ quiescent_ReferenceIdeal (hReferenceIdeal := hReferenceIdeal)
    ∧ quiescent_ReferenceIdeal_pre_text_in_vocab_and_finite (hReferenceIdeal := hReferenceIdeal) (hPre_text_in_vocab_and_finite := hPre_text_in_vocab_and_finite)
    ∧ preserves_Kernel_KernelIdeal
    ∧ algebraic_KernelIdeal_ReferenceIdeal_pre_text_in_vocab_and_finite (hKernelIdeal := hKernelIdeal) (hReferenceIdeal := hReferenceIdeal) (hPre_text_in_vocab_and_finite := hPre_text_in_vocab_and_finite)
-- ==== Pre_text_in_vocab.lean ====
abbrev S4096x50 : Shape := ⟨2, ![4096, 50]⟩
abbrev S100000x64 : Shape := ⟨2, ![100000, 64]⟩
abbrev S2x64 : Shape := ⟨2, ![2, 64]⟩
abbrev S2 : Shape := ⟨1, ![2]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x64 .f32) (main_arg2 : FVec F S2x64 .f32) (main_arg3 : FVec F S2 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Pre_text_in_vocab_and_finite.lean ====
abbrev S4096x50 : Shape := ⟨2, ![4096, 50]⟩
abbrev S100000x64 : Shape := ⟨2, ![100000, 64]⟩
abbrev S2x64 : Shape := ⟨2, ![2, 64]⟩
abbrev S2 : Shape := ⟨1, ![2]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S2x64 : S_.BroadcastsInDim S2x64 (![] : Fin 0 → Fin S2x64.rank)
  reducesTo_S2x64_S_d0_1 : S2x64.ReducesTo [0, 1] S_

variable [Facts]

def fn {F : FTy → Type} [FloatOps F] (main_arg0 : IVec S4096x50 32) (main_arg1 : FVec F S100000x64 .f32) (main_arg2 : FVec F S2x64 .f32) (main_arg3 : FVec F S2 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  let main_v6 : FVec F S100000x64 .f32 := Host.absf main_arg1
  let main_cst : FVec F S_ .f32 := constant S_ .f32 0x7F800000#32
  let main_v7 : FVec F S100000x64 .f32 := broadcastInDim S100000x64 ![] bcast_S_S100000x64 main_cst
  let main_v8 : IVec S100000x64 1 := cmpf .olt main_v6 main_v7
  let main_c_2 : IVec S_ 1 := constantI S_ 1 1#1
  let main_v9 : IVec S_ 1 := (fun x v => Host.reduce IntOp.andi x v reducesTo_S100000x64_S_d0_1 h_S_) main_v8 main_c_2
  let main_v10 : IVec S_ 1 := andi main_v5 main_v9
  let main_v11 : FVec F S2x64 .f32 := Host.absf main_arg2
  let main_cst_3 : FVec F S_ .f32 := constant S_ .f32 0x7F800000#32
  let main_v12 : FVec F S2x64 .f32 := broadcastInDim S2x64 ![] bcast_S_S2x64 main_cst_3
  let main_v13 : IVec S2x64 1 := cmpf .olt main_v11 main_v12
  let main_c_4 : IVec S_ 1 := constantI S_ 1 1#1
  let main_v14 : IVec S_ 1 := (fun x v => Host.reduce IntOp.andi x v reducesTo_S2x64_S_d0_1 h_S_) main_v13 main_c_4
  let main_v15 : IVec S_ 1 := andi main_v10 main_v14
  main_v15
-- ==== Kernel.lean ====
abbrev S4096x50 : Shape := ⟨2, ![4096, 50]⟩
abbrev S100000x64 : Shape := ⟨2, ![100000, 64]⟩
abbrev S2x64 : Shape := ⟨2, ![2, 64]⟩
abbrev S2 : Shape := ⟨1, ![2]⟩
abbrev S_ : Shape := ⟨0, ![]⟩
abbrev S64x16 : Shape := ⟨2, ![64, 16]⟩
abbrev S64x2 : Shape := ⟨2, ![64, 2]⟩
abbrev S1 : Shape := ⟨1, ![1]⟩
abbrev S16 : Shape := ⟨1, ![16]⟩
abbrev S100000x16 : Shape := ⟨2, ![100000, 16]⟩
abbrev S2000x64 : Shape := ⟨2, ![2000, 64]⟩
abbrev S2000x16 : Shape := ⟨2, ![2000, 16]⟩
abbrev S204800 : Shape := ⟨1, ![204800]⟩
abbrev S4096x16 : Shape := ⟨2, ![4096, 16]⟩
abbrev S6400 : Shape := ⟨1, ![6400]⟩
abbrev S6400x16 : Shape := ⟨2, ![6400, 16]⟩
abbrev S128x16 : Shape := ⟨2, ![128, 16]⟩
abbrev S1x16 : Shape := ⟨2, ![1, 16]⟩
abbrev S4096x2 : Shape := ⟨2, ![4096, 2]⟩

abbrev nBuf : Table → Nat
  | .hbm => 19
  | .local .tc .vmem => 5
  | .local .scVector .vmem => 4
  | _ => 0

abbrev bufTy : (tb : Table) → Fin (nBuf tb) → BufTy
  | .hbm, ⟨0, _⟩ => ⟨S4096x50, .i32⟩
  | .hbm, ⟨1, _⟩ => ⟨S100000x64, .f32⟩
  | .hbm, ⟨2, _⟩ => ⟨S2x64, .f32⟩
  | .hbm, ⟨3, _⟩ => ⟨S2, .f32⟩
  | .hbm, ⟨4, _⟩ => ⟨S_, .f32⟩
  | .hbm, ⟨5, _⟩ => ⟨S64x16, .f32⟩
  | .hbm, ⟨6, _⟩ => ⟨S64x2, .f32⟩
  | .hbm, ⟨7, _⟩ => ⟨S_, .i32⟩
  | .hbm, ⟨8, _⟩ => ⟨S1, .i32⟩
  | .hbm, ⟨9, _⟩ => ⟨S64x16, .f32⟩
  | .hbm, ⟨10, _⟩ => ⟨S_, .f32⟩
  | .hbm, ⟨11, _⟩ => ⟨S16, .f32⟩
  | .hbm, ⟨12, _⟩ => ⟨S_, .i32⟩
  | .hbm, ⟨13, _⟩ => ⟨S1, .i32⟩
  | .hbm, ⟨14, _⟩ => ⟨S16, .f32⟩
  | .hbm, ⟨15, _⟩ => ⟨S100000x16, .f32⟩
  | .hbm, ⟨16, _⟩ => ⟨S204800, .i32⟩
  | .hbm, ⟨17, _⟩ => ⟨S4096x16, .f32⟩
  | .hbm, ⟨18, _⟩ => ⟨S4096x2, .f32⟩
  | .local .tc .vmem, ⟨0, _⟩ => ⟨S2000x64, .f32⟩
  | .local .tc .vmem, ⟨1, _⟩ => ⟨S2000x64, .f32⟩
  | .local .tc .vmem, ⟨2, _⟩ => ⟨S64x16, .f32⟩
  | .local .tc .vmem, ⟨3, _⟩ => ⟨S2000x16, .f32⟩
  | .local .tc .vmem, ⟨4, _⟩ => ⟨S2000x16, .f32⟩
  | .local .scVector .vmem, ⟨0, _⟩ => ⟨S6400, .i32⟩
  | .local .scVector .vmem, ⟨1, _⟩ => ⟨S6400x16, .f32⟩
  | .local .scVector .vmem, ⟨2, _⟩ => ⟨S16, .f32⟩
  | .local .scVector .vmem, ⟨3, _⟩ => ⟨S128x16, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v7_scv : Ref sig .scVector := ⟨.hbm, 15, rfl⟩
abbrev main_v8_scv : Ref sig .scVector := ⟨.hbm, 16, rfl⟩
abbrev main_v6_scv : Ref sig .scVector := ⟨.hbm, 14, rfl⟩
abbrev main_v9_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c50_i32 : BitVec 32 := 50#32
  let v3 : BitVec 32 := Scalar.muli v2 c50_i32
  ![v3.toNat]
@[reducible] def k1_t1_loop : Scf.Loop 32 :=
  let c0_i32_4 : BitVec 32 := 0#32
  let c128_i32_5 : BitVec 32 := 128#32
  let v8 : BitVec 32 := Scalar.addi c0_i32_4 c128_i32_5
  let c1_i32 : BitVec 32 := 1#32
  ⟨c0_i32_4, v8, c1_i32⟩
def k1_off2 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let c50_i32_7 : BitVec 32 := 50#32
  let v9 : BitVec 32 := Scalar.muli arg11 c50_i32_7
  let v10 : Index := Scalar.indexCast v9
  let c0_8 : Index := 0#32
  ![v10.toNat, 0]
def k1_off3 (k1_t1 : Fin k1_t1_loop.trips) (c1_i32_9 : BitVec 32) : Fin 2 → Nat :=
  let c0_i32_4 : BitVec 32 := 0#32
  let c1_i32 : BitVec 32 := 1#32
  let arg11 : BitVec 32 := Scf.iv c0_i32_4 c1_i32 k1_t1
  let c50_i32_7 : BitVec 32 := 50#32
  let v9 : BitVec 32 := Scalar.muli arg11 c50_i32_7
  let v13 : BitVec 32 := Scalar.addi v9 c1_i32_9
  let v14 : Index := Scalar.indexCast v13
  let c0_10 : Index := 0#32
  ![v14.toNat, 0]
def k1_off4 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let v261 : Index := Scalar.indexCast arg11
  let c0_60 : Index := 0#32
  ![v261.toNat, 0]
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_7_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "fiftieth" => some ((50⁻¹ : ℝ) : EReal)
  | _ => none
-- ==== ReferenceIdeal.lean ====
abbrev S4096x50 : Shape := ⟨2, ![4096, 50]⟩
abbrev S100000x64 : Shape := ⟨2, ![100000, 64]⟩
abbrev S2x64 : Shape := ⟨2, ![2, 64]⟩
abbrev S2 : Shape := ⟨1, ![2]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x64 : Shape := ⟨3, ![4096, 50, 64]⟩
abbrev S4096x64 : Shape := ⟨2, ![4096, 64]⟩
abbrev S64x2 : Shape := ⟨2, ![64, 2]⟩
abbrev S4096x2 : Shape := ⟨2, ![4096, 2]⟩
abbrev S1x2 : Shape := ⟨2, ![1, 2]⟩

abbrev nBuf : Space → Nat
  | .hbm => 37
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x64, .f32⟩
  | .hbm, ⟨2, _⟩ => ⟨S2x64, .f32⟩
  | .hbm, ⟨3, _⟩ => ⟨S2, .f32⟩
  | .hbm, ⟨4, _⟩ => ⟨S_, .i32⟩
  | .hbm, ⟨5, _⟩ => ⟨S4096x50, .i32⟩
  | .hbm, ⟨6, _⟩ => ⟨S4096x50, .i1⟩
  | .hbm, ⟨7, _⟩ => ⟨S_, .i32⟩
  | .hbm, ⟨8, _⟩ => ⟨S4096x50, .i32⟩
  | .hbm, ⟨9, _⟩ => ⟨S4096x50, .i32⟩
  | .hbm, ⟨10, _⟩ => ⟨S4096x50, .i32⟩
  | .hbm, ⟨11, _⟩ => ⟨S4096x50x1, .i32⟩
  | .hbm, ⟨12, _⟩ => ⟨S1, .i32⟩
  | .hbm, ⟨13, _⟩ => ⟨S_, .i32⟩
  | .hbm, ⟨14, _⟩ => ⟨S4096x50x1, .i32⟩
  | .hbm, ⟨15, _⟩ => ⟨S4096x50x1, .i1⟩
  | .hbm, ⟨16, _⟩ => ⟨S1x1x1, .i32⟩
  | .hbm, ⟨17, _⟩ => ⟨S4096x50x1, .i32⟩
  | .hbm, ⟨18, _⟩ => ⟨S4096x50x1, .i1⟩
  | .hbm, ⟨19, _⟩ => ⟨S4096x50x1, .i1⟩
  | .hbm, ⟨20, _⟩ => ⟨S_, .i1⟩
  | .hbm, ⟨21, _⟩ => ⟨S4096x50, .i1⟩
  | .hbm, ⟨22, _⟩ => ⟨S4096x50x64, .f32⟩
  | .hbm, ⟨23, _⟩ => ⟨S4096x50x64, .i1⟩
  | .hbm, ⟨24, _⟩ => ⟨S_, .f32⟩
  | .hbm, ⟨25, _⟩ => ⟨S4096x50x64, .f32⟩
  | .hbm, ⟨26, _⟩ => ⟨S4096x50x64, .f32⟩
  | .hbm, ⟨27, _⟩ => ⟨S_, .f32⟩
  | .hbm, ⟨28, _⟩ => ⟨S4096x64, .f32⟩
  | .hbm, ⟨29, _⟩ => ⟨S_, .f32⟩
  | .hbm, ⟨30, _⟩ => ⟨S4096x64, .f32⟩
  | .hbm, ⟨31, _⟩ => ⟨S4096x64, .f32⟩
  | .hbm, ⟨32, _⟩ => ⟨S64x2, .f32⟩
  | .hbm, ⟨33, _⟩ => ⟨S4096x2, .f32⟩
  | .hbm, ⟨34, _⟩ => ⟨S1x2, .f32⟩
  | .hbm, ⟨35, _⟩ => ⟨S4096x2, .f32⟩
  | .hbm, ⟨36, _⟩ => ⟨S4096x2, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩

abbrev nD : Nat := 1
abbrev τ : Topo := Topo.v7x

variable {F : FTy → Type} [FloatOps F]
-- ==== Proof.IdealTrip.lean ====
/-
  One trip of the SparseCore kernel's loop over bags, with its value: the trip reads fifty rows of the row scratch and
  stores one row of the output scratch. Everything here is generic in the float instance.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The ghost state -/

/-- The TensorCore pipeline's rounds, beside the transfers' counters, beside the launch's handshakes. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev 𝒱₀ : Variants := Variants.none

local notation "pV" => (Memref.whole Cert.KernelIdeal.main_v7_scv : Memref Cert.KernelIdeal.sig Kind.scVector Space.hbm Cert.KernelIdeal.S100000x16 EltTy.f32)
local notation "iV" => (Memref.whole Cert.KernelIdeal.main_v8_scv : Memref Cert.KernelIdeal.sig Kind.scVector Space.hbm Cert.KernelIdeal.S204800 EltTy.i32)
local notation "bV" => (Memref.whole Cert.KernelIdeal.main_v6_scv : Memref Cert.KernelIdeal.sig Kind.scVector Space.hbm Cert.KernelIdeal.S16 EltTy.f32)
local notation "oV" => (Memref.whole Cert.KernelIdeal.main_v9_scv : Memref Cert.KernelIdeal.sig Kind.scVector Space.hbm Cert.KernelIdeal.S4096x16 EltTy.f32)
local notation "s0" => (Memref.whole Cert.KernelIdeal.cc1_scratch0 : Memref Cert.KernelIdeal.sig Kind.scVector Space.vmem Cert.KernelIdeal.S6400 EltTy.i32)
local notation "s1" => (Memref.whole Cert.KernelIdeal.cc1_scratch1 : Memref Cert.KernelIdeal.sig Kind.scVector Space.vmem Cert.KernelIdeal.S6400x16 EltTy.f32)
local notation "s2" => (Memref.whole Cert.KernelIdeal.cc1_scratch2 : Memref Cert.KernelIdeal.sig Kind.scVector Space.vmem Cert.KernelIdeal.S16 EltTy.f32)
local notation "s3" => (Memref.whole Cert.KernelIdeal.cc1_scratch3 : Memref Cert.KernelIdeal.sig Kind.scVector Space.vmem Cert.KernelIdeal.S128x16 EltTy.f32)

abbrev cV (L : grid1.Coords) : Fin τ.nSC := (L 0).castLE hcore1
abbrev jV (L : grid1.Coords) : Fin τ.nSub := (L 1).castLE hsub1

/-! ## The value of one bag -/

/-- Row `n` of the row scratch as the one-row vector a load reads (the row number taken modulo the scratch's height, so that
    it is defined for every `n`). -/
def rowAt (R : S6400x16.Idx → F .f32) (n : ℕ) : Vec F S1x16 .f32 :=
  fun j => R (ValueIdx.ix2 (⟨n % 6400, Nat.mod_lt _ (by decide)⟩ : Fin 6400) (j 1))

variable [FloatOps F] [Named F]

/-- The kernel's arithmetic for one bag: the fifty rows `v 0, …, v 49` added left to right, times the named constant, plus
    the bias `b`. -/
def bag (b : FVec F S16 .f32) (v : ℕ → Vec F S1x16 .f32) : FVec F S1x16 .f32 :=
  k1_pay8 b
    (k1_pay6
      (k1_pay5
        (k1_pay4
          (k1_pay3 (k1_pay2 (v 0) (v 1) (v 2) (v 3) (v 4) (v 5) (v 6) (v 7))
            (v 8) (v 9) (v 10) (v 11) (v 12) (v 13) (v 14) (v 15) (v 16))
          (v 17) (v 18) (v 19) (v 20) (v 21) (v 22) (v 23) (v 24))
        (v 25) (v 26) (v 27) (v 28) (v 29) (v 30) (v 31) (v 32) (v 33))
      (v 34) (v 35) (v 36) (v 37) (v 38) (v 39) (v 40) (v 41))
    (k1_pay7 (v 42)) (v 43) (v 44) (v 45) (v 46) (v 47) (v 48) (v 49)

section Trip

variable (d : Dev nD) (L : grid1.Coords)

/-- What the loop over bags keeps: the gathered rows `R` as they are, and the output scratch whose first `k` rows hold the
    first `k` bags' values. -/
def inv (R : Buf (Elt F) ((s1).view.loc (V d (cV L) (jV L)))) (b : Vec F S16 .f32) (k : ℕ) (_ : PUnit) : sProp 𝕄 :=
  iprop(((s1).view.loc (V d (cV L) (jV L)) ↦{fullShare} R)
    ∗ ∃ f, ⌜∀ y : S128x16.Idx, (y 0).val < k → (s3).view.read (Elt F) f y = bag (k1_pay1 b) (fun r => rowAt R (50 * (y 0).val + r)) (ValueIdx.ix2 0 (y 1))⌝
      ∗ ((s3).view.loc (V d (cV L) (jV L)) ↦{fullShare} f))

omit [FloatOps F] [Named F] in
/-- A one-row load of the row scratch at row `n` reads row `n`. -/
theorem read_row (R : Buf (Elt F) ((s1).view.loc (V d (cV L) (jV L)))) (off : Fin 2 → ℕ) (n : ℕ) (he : off = ![n, 0])
    (h : ∀ a, off a + S1x16.size a ≤ S6400x16.size a) :
    (s1).view.readAt (Elt F) (Rect.unit (s := S6400x16) off S1x16.size h).toLoadRect R = rowAt R n := by
  subst he
  funext j
  have hn : n < 6400 := by have := h 0; change n + 1 ≤ 6400 at this; omega
  have e : (Rect.unit (s := S6400x16) ![n, 0] S1x16.size h).emb j
      = ValueIdx.ix2 (⟨n % 6400, Nat.mod_lt _ (by decide)⟩ : Fin 6400) (j 1) := by
    have h0 : (j 0).val = 0 := Nat.lt_one_iff.mp (j 0).isLt
    funext a
    match a with
    | 0 => exact Fin.ext (show n + 1 * (j 0).val = n % 6400 by rw [Nat.mod_eq_of_lt hn]; omega)
    | 1 => exact Fin.ext (show 0 + 1 * (j 1).val = (j 1).val by omega)
  exact congrArg R e

omit [FloatOps F] [Named F] in
theorem load_first (R : Buf (Elt F) ((s1).view.loc (V d (cV L) (jV L)))) (k : Fin k1_t1_loop.trips) (h) :
    (s1).view.readAt (Elt F) (Rect.unit (s := S6400x16) (k1_off2 k) S1x16.size h).toLoadRect R = rowAt R (50 * k.val + 0) :=
  read_row d L R _ _ (k1_off2_eq k) h

omit [FloatOps F] [Named F] in
theorem load_next (R : Buf (Elt F) ((s1).view.loc (V d (cV L) (jV L)))) (k : Fin k1_t1_loop.trips) (x : BitVec 32) (h)
    (h1 : 1 ≤ x.toNat) (h2 : x.toNat < 50) :
    (s1).view.readAt (Elt F) (Rect.unit (s := S6400x16) (k1_off3 k x) S1x16.size h).toLoadRect R
      = rowAt R (50 * k.val + x.toNat) := by
  refine read_row d L R _ _ ?_ h
  obtain ⟨r, hr⟩ : ∃ r, x.toNat = 1 + r := ⟨x.toNat - 1, by omega⟩
  have hx : x = BitVec.ofNat 32 (1 + r) := by rw [← hr, BitVec.ofNat_toNat, BitVec.setWidth_eq]
  rw [hr, hx, k1_off3_eq k ⟨r, by omega⟩]
  congr 1
  show 50 * k.val + r + 1 = 50 * k.val + (1 + r)
  omega

omit [FloatOps F] [Named F] in
/-- After one more row is stored at row `k`, the rows below `k + 1` hold their values, if the rows below `k` did and the
    stored row is row `k`'s. -/
theorem rows_step (f : Buf (Elt F) ((s3).view.loc (V d (cV L) (jV L)))) (k : Fin k1_t1_loop.trips) (h) (w : FVec F S1x16 .f32)
    (G : ℕ → FVec F S1x16 .f32) (hf : ∀ y : S128x16.Idx, (y 0).val < k.val → (s3).view.read (Elt F) f y = G (y 0).val (ValueIdx.ix2 0 (y 1)))
    (hw : w = G k.val) (y : S128x16.Idx) (hy : (y 0).val < k.val + 1) :
    (s3).view.read (Elt F) ((s3).view.writes (Elt F) f [⟨Rect.unit (s := S128x16) (k1_off4 k) S1x16.size h, w⟩]) y
      = G (y 0).val (ValueIdx.ix2 0 (y 1)) := by
  have hoff : k1_off4 k = ![k.val, 0] := k1_off4_eq k
  rcases Nat.lt_succ_iff_lt_or_eq.mp hy with hlt | heq
  · rw [View.read_writes_cons_miss_of_axis (s3).view f ⟨Rect.unit (s := S128x16) (k1_off4 k) S1x16.size h, w⟩ [] y 0 k.val 1
      (show k1_off4 k 0 = k.val by rw [hoff]; rfl) rfl rfl (.inl hlt)]
    exact hf y hlt
  · rw [View.read_writes_cons_hit_of_coords (s3).view f (Rect.unit (s := S128x16) (k1_off4 k) S1x16.size h) w [] (ValueIdx.ix2 0 (y 1)) y
      (fun a => match a with
        | 0 => show (y 0).val = k1_off4 k 0 + 1 * 0 by rw [hoff]; simpa using heq
        | 1 => show (y 1).val = k1_off4 k 1 + 1 * (y 1).val by rw [hoff]; simp), hw, heq]

set_option maxHeartbeats 1600000 in
/-- One trip of the loop over bags: row `k` of the output scratch receives bag `k`'s value. -/
theorem trip (R : Buf (Elt F) ((s1).view.loc (V d (cV L) (jV L)))) (b : Vec F S16 .f32) (k : Fin k1_t1_loop.trips) :
    inv d L R b k.val ⟨⟩
      ⊢ wp frame (wpE (defs₀ (F := F)) 𝒱₀ (V d (cV L) (jV L)) none) Set.univ
          (k1_t1_body L pV (Memref.isWhole_whole _) iV (Memref.isWhole_whole _) bV (Memref.isWhole_whole _) oV (Memref.isWhole_whole _)
            s0 (Memref.isWhole_whole _) s1 (Memref.isWhole_whole _) s2 (Memref.isWhole_whole _) s3 (Memref.isWhole_whole _)
            cc1_scratch4 cc1_scoped0 cc1_scoped1 cc1_scoped2 b k ())
          fun _ => inv d L R b (k.val + 1) ⟨⟩ := by
  unfold k1_t1_body inv
  iintro ⟨HR, %f, %hf, Ho⟩
  sl_exec
  sl_step
  isplitl [HR]; · iexact HR
  iexists _; isplitr
  swap; · iexact Ho
  ipureintro
  have key : ∀ w : FVec F S1x16 .f32, w = bag (k1_pay1 b) (fun r => rowAt R (50 * k.val + r)) →
      ∀ y : S128x16.Idx, (y 0).val < k.val + 1 →
        (s3).view.read (Elt F) ((s3).view.writes (Elt F) f [⟨Rect.unit (s := S128x16) (k1_off4 k) S1x16.size (k1_off4_inb k), w⟩]) y
          = bag (k1_pay1 b) (fun r => rowAt R (50 * (y 0).val + r)) (ValueIdx.ix2 0 (y 1)) := fun w hw y hy =>
    rows_step d L f k _ w (fun t => bag (k1_pay1 b) (fun r => rowAt R (50 * t + r))) hf hw y hy
  refine key _ ?_
  sl_unfold_run_names
  rw [load_first]
  iterate 49 rw [load_next (h1 := by decide) (h2 := by decide)]
  simp only [BitVec.reduceToNat]
  unfold bag k1_pay2 k1_pay3 k1_pay4 k1_pay5 k1_pay6 k1_pay7 k1_pay8
  dsimp only

end Trip

end Cert.Proof.KI

end
-- ==== Proof.IdealTile.lean ====
/-
  The SparseCore kernel on one tile, with its value: the tile fetches its 6400 words of the flat text, gathers the named
  rows of the projected table, sums them by fifties, and writes its 128 rows of the output. Everything here is generic in
  the float instance and in the contents of the three arrays the kernel reads.
-/
module

public import proofs.«01_k».proof.Proof.IdealTrip

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pV" => (Memref.whole Cert.KernelIdeal.main_v7_scv : Memref Cert.KernelIdeal.sig Kind.scVector Space.hbm Cert.KernelIdeal.S100000x16 EltTy.f32)
local notation "iV" => (Memref.whole Cert.KernelIdeal.main_v8_scv : Memref Cert.KernelIdeal.sig Kind.scVector Space.hbm Cert.KernelIdeal.S204800 EltTy.i32)
local notation "bV" => (Memref.whole Cert.KernelIdeal.main_v6_scv : Memref Cert.KernelIdeal.sig Kind.scVector Space.hbm Cert.KernelIdeal.S16 EltTy.f32)
local notation "oV" => (Memref.whole Cert.KernelIdeal.main_v9_scv : Memref Cert.KernelIdeal.sig Kind.scVector Space.hbm Cert.KernelIdeal.S4096x16 EltTy.f32)
local notation "s0" => (Memref.whole Cert.KernelIdeal.cc1_scratch0 : Memref Cert.KernelIdeal.sig Kind.scVector Space.vmem Cert.KernelIdeal.S6400 EltTy.i32)
local notation "s1" => (Memref.whole Cert.KernelIdeal.cc1_scratch1 : Memref Cert.KernelIdeal.sig Kind.scVector Space.vmem Cert.KernelIdeal.S6400x16 EltTy.f32)
local notation "s2" => (Memref.whole Cert.KernelIdeal.cc1_scratch2 : Memref Cert.KernelIdeal.sig Kind.scVector Space.vmem Cert.KernelIdeal.S16 EltTy.f32)
local notation "s3" => (Memref.whole Cert.KernelIdeal.cc1_scratch3 : Memref Cert.KernelIdeal.sig Kind.scVector Space.vmem Cert.KernelIdeal.S128x16 EltTy.f32)

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱 : Variants := 𝒱₀.lift
abbrev v₀ : 𝒱.V := Sum.inl none

/-- The launch's side conditions on the semaphores and buffers it uses. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The arrays and the value -/

abbrev pLoc (d : Dev nD) : Loc nD τ sig := (SparseCore.T d).loc main_v7
abbrev iLoc (d : Dev nD) : Loc nD τ sig := (SparseCore.T d).loc main_v8
abbrev bLoc (d : Dev nD) : Loc nD τ sig := (SparseCore.T d).loc main_v6
abbrev oLoc (d : Dev nD) : Loc nD τ sig := (SparseCore.T d).loc main_v9

/-- Row `n` of the gathered rows of the whole text: the row of the projected table `fp` that word `n` of the flat text `fi`
    names (both taken modulo their range, so that it is defined for every `n`). -/
def rowOf (fp : S100000x16.Idx → F .f32) (fi : S204800.Idx → BitVec 32) (n : ℕ) : Vec F S1x16 .f32 :=
  fun j => fp (ValueIdx.ix2 (⟨(fi (ValueIdx.ix1 (⟨n % 204800, Nat.mod_lt _ (by decide)⟩ : Fin 204800))).toNat % 100000, Nat.mod_lt _ (by decide)⟩ : Fin 100000) (j 1))

/-- The kernel's output array: row `t` is bag `t`'s value, its fifty rows those of words `50 t, …, 50 t + 49`. -/
def out [FloatOps F] [Named F] (fp : S100000x16.Idx → F .f32) (fi : S204800.Idx → BitVec 32) (fb : S16.Idx → F .f32) : S4096x16.Idx → F .f32 :=
  fun y => bag (k1_pay1 fb) (fun r => rowOf fp fi (50 * (y 0).val + r)) (ValueIdx.ix2 0 (y 1))

theorem odiv : 32 ∣ S4096x16.size 0 := ⟨128, rfl⟩
/-- The 128 rows of the output that worker `w` writes. -/
abbrev orow (w : Fin 32) : Rect S4096x16 := Rect.part (s := S4096x16) (a₀ := 0) odiv w
abbrev oRowSet (w : Fin 32) : Finset S4096x16.Idx := ((oV).view.slice (orow w)).set
/-- Worker `w`'s share of an array every worker reads. -/
abbrev rq (w : Fin 32) : PosShare TreeShare := Transfers.dealOf fullShare (Finset.univ : Finset (Fin 32)) w

/-- Worker `w`'s part of the four arrays: its share of the three it reads, its rows of the output at contents `fo`. -/
abbrev part (d : Dev nD) (w : Fin 32) (fp : S100000x16.Idx → F .f32) (fi : S204800.Idx → BitVec 32) (fb : S16.Idx → F .f32) (fo : S4096x16.Idx → F .f32) : sProp 𝕄 :=
  iprop((pLoc d ↦{rq w} (fp : Buf (Elt F) (pLoc d))) ∗ (iLoc d ↦{rq w} (fi : Buf (Elt F) (iLoc d))) ∗ (bLoc d ↦{rq w} (fb : Buf (Elt F) (bLoc d)))
    ∗ (oLoc d ↦[oRowSet w]{fullShare} (fo : Buf (Elt F) (oLoc d))))

variable [FloatOps F] [Named F]

section Tile

variable (d : Dev nD) (L : grid1.Coords)

omit [FloatOps F] [Named F] in
theorem bound_zero : grid1.bound 0 = 2 := rfl
omit [FloatOps F] [Named F] in
theorem bound_one : grid1.bound 1 = 16 := rfl

/-- The worker's number: twice the tile's plus the core's. -/
abbrev wid (L : grid1.Coords) : Fin 32 := ⟨(L 0).val + 2 * (L 1).val, by have h0 : (L 0).val < 2 := (L 0).isLt; have h1 : (L 1).val < 16 := (L 1).isLt; omega⟩

abbrev irowK (L : grid1.Coords) : Rect S204800 := Rect.unit (s := S204800) (k1_off1 L) S6400.size (k1_off1_inb L)
abbrev orowK (L : grid1.Coords) : Rect S4096x16 := Rect.unit (s := S4096x16) (k1_off5 L) S128x16.size (k1_off5_inb L)
abbrev iRowK (L : grid1.Coords) : Memref sig .scVector .hbm S6400 .i32 := (iV).slice (irowK L) (fun _ => rfl)
abbrev oRowK (L : grid1.Coords) : Memref sig .scVector .hbm S128x16 .f32 := (oV).slice (orowK L) (fun _ => rfl)

omit [FloatOps F] [Named F] in
theorem orowK_eq : orowK L = orow (wid L) := by
  unfold orowK orow Rect.part Rect.block
  congr 1 <;> funext a
  · rw [k1_off5_eq]
    match a with
    | 0 => simp [Shape.partIx, Shape.partSize]; omega
    | 1 => simp [Shape.partIx, Shape.partSize]
  · match a with
    | 0 => simp [Shape.partSize]
    | 1 => simp [Shape.partSize]
omit [FloatOps F] [Named F] in
theorem set_oRowK : (oRowK L).view.set = oRowSet (wid L) := by
  show ((oV).view.slice (orowK L)).set = ((oV).view.slice (orow (wid L))).set
  exact orowK_eq L ▸ rfl

omit [FloatOps F] [Named F] in
theorem pts_oRowK (f : Buf (Elt F) (oLoc d)) :
    ((oRowK L).view.loc (V d (cV L) (jV L)) ↦[(oRowK L).view.set]{fullShare} f : sProp 𝕄) = oLoc d ↦[oRowSet (wid L)]{fullShare} f := by
  rw [set_oRowK]
omit [FloatOps F] [Named F] in
theorem pts_pV (q : PosShare TreeShare) (f : Buf (Elt F) (pLoc d)) :
    ((pV).view.loc (V d (cV L) (jV L)) ↦{q} f : sProp 𝕄) = pLoc d ↦{q} f := rfl
omit [FloatOps F] [Named F] in
theorem pts_iV (q : PosShare TreeShare) (f : Buf (Elt F) (iLoc d)) :
    ((iV).view.loc (V d (cV L) (jV L)) ↦{q} f : sProp 𝕄) = iLoc d ↦{q} f := rfl
omit [FloatOps F] [Named F] in
theorem pts_bV (q : PosShare TreeShare) (f : Buf (Elt F) (bLoc d)) :
    ((bV).view.loc (V d (cV L) (jV L)) ↦{q} f : sProp 𝕄) = bLoc d ↦{q} f := rfl
omit [FloatOps F] [Named F] in
theorem pts_s0 (f : Buf (Elt F) ((V d (cV L) (jV L)).loc cc1_scratch0)) :
    ((s0).view.loc (V d (cV L) (jV L)) ↦{fullShare} f : sProp 𝕄) = (V d (cV L) (jV L)).loc cc1_scratch0 ↦{fullShare} f := rfl
omit [FloatOps F] [Named F] in
theorem pts_s1 (f : Buf (Elt F) ((V d (cV L) (jV L)).loc cc1_scratch1)) :
    ((s1).view.loc (V d (cV L) (jV L)) ↦{fullShare} f : sProp 𝕄) = (V d (cV L) (jV L)).loc cc1_scratch1 ↦{fullShare} f := rfl
omit [FloatOps F] [Named F] in
theorem pts_s2 (f : Buf (Elt F) ((V d (cV L) (jV L)).loc cc1_scratch2)) :
    ((s2).view.loc (V d (cV L) (jV L)) ↦{fullShare} f : sProp 𝕄) = (V d (cV L) (jV L)).loc cc1_scratch2 ↦{fullShare} f := rfl
omit [FloatOps F] [Named F] in
theorem pts_s3 (f : Buf (Elt F) ((V d (cV L) (jV L)).loc cc1_scratch3)) :
    ((s3).view.loc (V d (cV L) (jV L)) ↦{fullShare} f : sProp 𝕄) = (V d (cV L) (jV L)).loc cc1_scratch3 ↦{fullShare} f := rfl

abbrev gCell (d : Dev nD) (c : Fin τ.nSC) (i : Fin τ.nSub) : GSem nD τ sig := (V d c i, .dma cc1_scratch4.sem)
abbrev aCell (d : Dev nD) (c : Fin τ.nSC) (i : Fin τ.nSub) : GSem nD τ sig := (V d c i, .dma cc1_scoped0.sem)
abbrev bCell (d : Dev nD) (c : Fin τ.nSC) (i : Fin τ.nSub) : GSem nD τ sig := (V d c i, .dma cc1_scoped1.sem)
abbrev cCell (d : Dev nD) (c : Fin τ.nSC) (i : Fin τ.nSub) : GSem nD τ sig := (V d c i, .dma cc1_scoped2.sem)

omit [FloatOps F] [Named F] in
/-- The kernel's four DMA cells are among the tile's own: they are them, at zero, and the rest. -/
theorem ownSems0_V :
    (ownSems0 (V d (cV L) (jV L)) : sProp 𝕄)
      = iprop(semVal (gCell d (cV L) (jV L)) 0 ∗ semVal (aCell d (cV L) (jV L)) 0 ∗ semVal (bCell d (cV L) (jV L)) 0 ∗ semVal (cCell d (cV L) (jV L)) 0
          ∗ bigSep (((((ownCells (V d (cV L) (jV L))).erase (gCell d (cV L) (jV L))).erase (aCell d (cV L) (jV L))).erase (bCell d (cV L) (jV L))).erase (cCell d (cV L) (jV L))) fun g => semVal g 0) := by
  unfold SparseCore.Cfg.ownSems0
  have own : ∀ s : DmaSem sig, (SemLoc.dma s : SemLoc sig).isScoped .scVector = true → ((V d (cV L) (jV L), .dma s) : GSem nD τ sig) ∈ ownCells (V d (cV L) (jV L)) :=
    fun s h => mem_ownCells.mpr ⟨rfl, h⟩
  have ne : ∀ s s' : DmaSem sig, s ≠ s' → ((V d (cV L) (jV L), .dma s) : GSem nD τ sig) ≠ (V d (cV L) (jV L), .dma s') :=
    fun s s' h e => h (SemLoc.dma.inj (congrArg Prod.snd e))
  rw [SparseCore.bigSep_erase' (own cc1_scratch4.sem (by decide)),
    SparseCore.bigSep_erase' (Finset.mem_erase.mpr ⟨ne cc1_scoped0.sem _ (by decide), own _ (by decide)⟩),
    SparseCore.bigSep_erase' (Finset.mem_erase.mpr ⟨ne cc1_scoped1.sem _ (by decide), Finset.mem_erase.mpr ⟨ne _ _ (by decide), own _ (by decide)⟩⟩),
    SparseCore.bigSep_erase' (Finset.mem_erase.mpr ⟨ne cc1_scoped2.sem _ (by decide), Finset.mem_erase.mpr ⟨ne _ _ (by decide), Finset.mem_erase.mpr ⟨ne _ _ (by decide), own _ (by decide)⟩⟩⟩)]

omit [FloatOps F] [Named F] in
/-- The four scratch buffers are among the tile's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  have own : ∀ b : Ref sig .scVector, ((Proc.scVector (cV L) (jV L)).devRef b).owner = Owner.proc (Proc.scVector (cV L) (jV L)) →
      (Proc.scVector (cV L) (jV L)).devRef b ∈ ownRefs (τ := τ) (.scVector (cV L) (jV L)) := fun b h =>
    SparseCore.Cfg.mem_ownRefs_of_owner (p := Proc.scVector (cV L) (jV L)) h
  have ne : ∀ b b' : Ref sig .scVector, b ≠ b' → (Proc.scVector (cV L) (jV L)).devRef b ≠ (Proc.scVector (cV L) (jV L)).devRef b' :=
    fun b b' h e => h (Proc.devRef_injective _ e)
  refine (SparseCore.bigSep_erase' (own cc1_scratch0 rfl)).trans ?_
  rw [SparseCore.bigSep_erase' (Finset.mem_erase.mpr ⟨ne cc1_scratch1 _ (by decide), own _ rfl⟩),
    SparseCore.bigSep_erase' (Finset.mem_erase.mpr ⟨ne cc1_scratch2 _ (by decide), Finset.mem_erase.mpr ⟨ne _ _ (by decide), own _ rfl⟩⟩),
    SparseCore.bigSep_erase' (Finset.mem_erase.mpr ⟨ne cc1_scratch3 _ (by decide), Finset.mem_erase.mpr ⟨ne _ _ (by decide), Finset.mem_erase.mpr ⟨ne _ _ (by decide), own _ rfl⟩⟩⟩)]

variable (fp : S100000x16.Idx → F .f32) (fi : S204800.Idx → BitVec 32) (fb : S16.Idx → F .f32) (fo : S4096x16.Idx → F .f32)

omit [FloatOps F] [Named F] in
/-- After the fetch, word `x` of the tile's list is the word of the flat text at `6400` times the worker's number plus `x`. -/
theorem list_read (f0 : Buf (Elt F) ((s0).view.loc (V d (cV L) (jV L)))) (pay : S6400.Idx → Elt F .i32)
    (hpay : pay = (iRowK L).view.read (Elt F) (fi : Buf (Elt F) (iLoc d))) (x : S6400.Idx) :
    (s0).view.read (Elt F) (View.write (Elt F) (s0).view f0 pay Finset.univ) x
      = fi (ValueIdx.ix1 (⟨(6400 * (wid L).val + (x 0).val) % 204800, Nat.mod_lt _ (by decide)⟩ : Fin 204800)) := by
  subst hpay
  rw [View.write_whole_univ]
  simp only [Memref.view_whole, View.read_whole]
  have e : (irowK L).emb x = ValueIdx.ix1 (⟨(6400 * (wid L).val + (x 0).val) % 204800, Nat.mod_lt _ (by decide)⟩ : Fin 204800) := by
    funext a
    match a with
    | 0 =>
      have hx : (x 0).val < 6400 := (x 0).isLt
      have hw : (wid L).val < 32 := (wid L).isLt
      refine Fin.ext (show k1_off1 L 0 + 1 * (x 0).val = (6400 * (wid L).val + (x 0).val) % 204800 from ?_)
      rw [Nat.mod_eq_of_lt (by omega), k1_off1_eq]
      show 12800 * (L 1).val + 6400 * (L 0).val + 1 * (x 0).val = 6400 * ((L 0).val + 2 * (L 1).val) + (x 0).val
      omega
  exact congrArg fi e

/-- The projected table, whole, as the kernel slices it for the gather. -/
abbrev pAllK : Memref sig .scVector .hbm S100000x16 .f32 :=
  (pV).slice (Rect.unit (s := S100000x16) ![0, 0] S100000x16.size inb_S100000x16_S100000x16_0_0) (fun _ => rfl)

omit [FloatOps F] [Named F] in
/-- One write of the whole of a view, read back through the view, is what was written. -/
theorem read_writes_whole {κ : Kind} {sp : Space} {s : Shape} {e : EltTy} (v : View sig κ sp s e) (f : v.ty.Contents (Elt F)) (w : s.Idx → Elt F e) :
    v.read (Elt F) (v.writes (Elt F) f [⟨Rect.whole s, w⟩]) = w :=
  funext fun y => View.read_writes_cons_hit v f (Rect.whole s) w [] y y (funext fun a => Fin.ext (show 0 + 1 * (y a).val = (y a).val by omega))

omit [FloatOps F] [Named F] in
/-- After the gather, row `n` of the row scratch is the row of the projected table that word `6400 w + n` of the flat text
    names, `w` the worker's number. -/
theorem rows_read (hin : ∀ j, (fi j).toNat < 100000) (f1 : Buf (Elt F) ((s1).view.loc (V d (cV L) (jV L)))) (lst : Buf (Elt F) ((s0).view.loc (V d (cV L) (jV L))))
    (hl : ∀ x : S6400.Idx, (s0).view.read (Elt F) lst x
      = fi (ValueIdx.ix1 (⟨(6400 * (wid L).val + (x 0).val) % 204800, Nat.mod_lt _ (by decide)⟩ : Fin 204800)))
    (hn) (hr) (pay : S6400x16.Idx → Elt F .f32)
    (hpay : pay = SparseCore.gatherPayload gathers_S100000x16_S6400x16 ((pAllK).view.read (Elt F) (fp : Buf (Elt F) (pLoc d)))
      (SparseCore.rows ((s0).view.read (Elt F) lst) hn hr)) (n : ℕ) (hn' : n < 6400) :
    rowAt ((s1).view.writes (Elt F) f1 [⟨Rect.whole cc1_scratch1.ty.shape, pay⟩]) n = rowOf fp fi (6400 * (wid L).val + n) := by
  funext j
  have e1 := read_writes_whole (s1).view f1 pay
  simp only [Memref.view_whole, View.read_whole] at e1
  simp only [Memref.view_whole]
  rw [e1, hpay]
  unfold rowAt rowOf
  refine congrArg fp (funext fun a => ?_)
  match a with
  | 0 =>
    refine Fin.ext (show 0 + 1 * ((s0).view.read (Elt F) lst (S6400.rowMajor.symm _)).toNat = _ from ?_)
    rw [hl, zero_add, one_mul]
    refine Eq.trans ?_ (Nat.mod_eq_of_lt (hin _)).symm
    refine congrArg (fun z => (fi z).toNat) (congrArg ValueIdx.ix1 (Fin.ext (congrArg (fun z => (6400 * (wid L).val + z) % 204800) ?_)))
    rw [← Shape.rowMajor_val_one, Equiv.apply_symm_apply]
    show n % 6400 = n
    exact Nat.mod_eq_of_lt hn'
  | 1 => exact Fin.ext (show 0 + 1 * (j 1).val = (j 1).val by omega)

/-- A bag's value depends only on its fifty rows. -/
theorem bag_congr (b : FVec F S16 .f32) (v w : ℕ → Vec F S1x16 .f32) (h : ∀ r, r < 50 → v r = w r) : bag b v = bag b w := by
  unfold bag
  simp (disch := decide) only [h]

/-- The output scratch's 128 rows, written to the worker's rows of the output, are the output array's. -/
theorem out_rows (R : Buf (Elt F) ((s1).view.loc (V d (cV L) (jV L))))
    (hR : ∀ n, n < 6400 → rowAt R n = rowOf fp fi (6400 * (wid L).val + n)) (f3 : Buf (Elt F) ((s3).view.loc (V d (cV L) (jV L))))
    (hf : ∀ y : S128x16.Idx, (s3).view.read (Elt F) f3 y = bag (k1_pay1 fb) (fun r => rowAt R (50 * (y 0).val + r)) (ValueIdx.ix2 0 (y 1)))
    (x : S4096x16.Idx) (hx : x ∈ (oRowK L).view.set) :
    (oRowK L).view.writes (Elt F) (fo : Buf (Elt F) (oLoc d)) [⟨Rect.whole S128x16, (s3).view.read (Elt F) f3⟩] x = out fp fi fb x := by
  obtain ⟨y, -, rfl⟩ := Finset.mem_map.mp hx
  refine (View.read_writes_cons_hit (oRowK L).view (fo : Buf (Elt F) (oLoc d)) (Rect.whole S128x16) ((s3).view.read (Elt F) f3) [] y y
    (funext fun a => Fin.ext (show 0 + 1 * (y a).val = (y a).val by omega))).trans ?_
  rw [hf]
  have h0 : (((oRowK L).view.emb y : S4096x16.Idx) 0).val = 128 * (wid L).val + (y 0).val := by
    show k1_off5 L 0 + 1 * (y 0).val = 128 * ((L 0).val + 2 * (L 1).val) + (y 0).val
    rw [k1_off5_eq]
    show 256 * (L 1).val + 128 * (L 0).val + 1 * (y 0).val = 128 * ((L 0).val + 2 * (L 1).val) + (y 0).val
    omega
  have h1 : ((oRowK L).view.emb y : S4096x16.Idx) 1 = y 1 := Fin.ext (by
    show k1_off5 L 1 + 1 * (y 1).val = (y 1).val
    rw [k1_off5_eq]
    show 0 + 1 * (y 1).val = (y 1).val
    omega)
  unfold out
  rw [h1, h0]
  refine congrFun (bag_congr _ _ _ fun r hr => ?_) _
  have hy : (y 0).val < 128 := (y 0).isLt
  show rowAt R (50 * (y 0).val + r) = rowOf fp fi (50 * (128 * (wid L).val + (y 0).val) + r)
  rw [hR _ (by omega)]
  exact congrArg (rowOf fp fi) (by omega)

set_option maxHeartbeats 1000000 in
/-- The kernel on vector subcore `(L 0, L 1)` of device `d`: holding its share of the three arrays it reads and its rows of
    the output, it ends with the same shares and its rows of the output at `out`. -/
theorem tile_body (hF : (K (F := F)).Facts) (hin : ∀ j, (fi j).toNat < 100000)
    (O : CellTallies nD τ sig (HIx 1)) (W : Waits sig (HIx 1)) (hO : ∀ g, O g none = 0) :
    iprop(levAts (K (F := F)).L (K (F := F)).lev ∗ emp
        ∗ part d (wid L) fp fi fb fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L pV (Memref.isWhole_whole _) iV (Memref.isWhole_whole _) bV (Memref.isWhole_whole _) oV (Memref.isWhole_whole _)
            s0 (Memref.isWhole_whole _) s1 (Memref.isWhole_whole _) s2 (Memref.isWhole_whole _) s3 (Memref.isWhole_whole _)
            cc1_scratch4 cc1_scoped0 cc1_scoped1 cc1_scoped2)
          fun _ => iprop(part d (wid L) fp fi fb (out fp fi fb)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  iintro ⟨#Hlv, -, ⟨Hp, Hi, Hb, Ho⟩, ⟨⟨%f0, H0⟩, ⟨%f1, H1⟩, ⟨%f2, H2⟩, ⟨%f3, H3⟩, Hbufs⟩, ⟨HsemG, HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp' := (Entails.of_eq (pts_pV (F := F) d L _ _).symm) $$ Hp
  ihave Hi' := (Entails.of_eq (pts_iV (F := F) d L _ _).symm) $$ Hi
  ihave Hb' := (Entails.of_eq (pts_bV (F := F) d L _ _).symm) $$ Hb
  ihave Ho' := (Entails.of_eq (pts_oRowK (F := F) d L _).symm) $$ Ho
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  sl_exec
  have hl := fun x => list_read d L fi f0 _ (rfl : tile_body.sl.dma0 L fi = _) x
  have hr : ∀ x, ((s0).view.read (Elt F) (View.write (Elt F) (s0).view f0 (tile_body.sl.dma0 L fi) Finset.univ) x).toNat
      < S100000x16.size gathers_S100000x16_S6400x16.axis := fun x => by rw [hl]; exact hin _
  sl_exec
  have hb : (s2).view.readAt (Elt F) (Rect.unit (s := S16) ![0] S16.size inb_S16_S16_0).toLoadRect
      (View.write (Elt F) (s2).view f2 (tile_body.sl.dma0_1 fb) Finset.univ) = fb := by
    rw [View.write_whole_univ]
    exact funext fun j => congrArg fb (funext fun a => Fin.ext (show (![0] : Fin 1 → ℕ) a + 1 * (j a).val = (j a).val by
      match a with | 0 => show 0 + 1 * (j 0).val = (j 0).val; omega))
  have hR := fun n hn' => rows_read d L fp fi hin (s1).view.junk _ hl _ hr (tile_body.sl.gather0 d L fp fi f0 hr) rfl n hn'
  rw [hb]
  generalize (s1).view.writes (Elt F) (s1).view.junk [⟨Rect.whole cc1_scratch1.ty.shape, tile_body.sl.gather0 d L fp fi f0 hr⟩] = R at hR ⊢
  sl_for (inv d L R fb) $$ [H1' H3']
  case region =>
    intro k _
    exact trip d L R fb k
  · unfold inv
    isplitl [H1']; · iexact H1'
    iexists _; isplitr
    swap; · iexact H3'
    ipureintro
    exact fun y hy => absurd hy (Nat.not_lt_zero _)
  iintro %acc Hinv
  unfold inv
  icases Hinv with ⟨H1', %g, %hg, H3'⟩
  sl_exec
  sl_step
  have hg' : ∀ y : S128x16.Idx, (s3).view.read (Elt F) g y = bag (k1_pay1 fb) (fun r => rowAt R (50 * (y 0).val + r)) (ValueIdx.ix2 0 (y 1)) :=
    fun y => hg y (lt_of_lt_of_eq (y 0).isLt (show 128 = Scf.trips k1_t1_loop.lb k1_t1_loop.ub k1_t1_loop.st by decide))
  have ho := fun x hx => out_rows d L fp fi fb fo R hR g hg' x hx
  isplitl [Hp' Hi' Hb' Ho']
  · isplitl [Hp']; · iexact Hp'
    isplitl [Hi']; · iexact Hi'
    isplitl [Hb']; · iexact Hb'
    iapply (Entails.of_eq (pts_oRowK (F := F) d L _))
    iapply (Entails.of_eq (pointsTo_congr ho))
    iexact Ho'
  isplitl [H0' H1' H2' H3' Hbufs]
  · isplitl [H0']; · iexists _; iexact H0'
    isplitl [H1']; · iexists _; iexact H1'
    isplitl [H2']; · iexists _; iexact H2'
    isplitl [H3']; · iexists _; iexact H3'
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KI

end
-- ==== Proof.IdealSplit.lean ====
/-
  The SparseCore call as the launch sees it: what each worker is handed and hands back, that each worker meets its
  obligation, and that the four arrays whole are the workers' parts. Everything here is generic in the float instance.
-/
module

public import proofs.«01_k».proof.Proof.IdealTile

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pV" => (Memref.whole Cert.KernelIdeal.main_v7_scv : Memref Cert.KernelIdeal.sig Kind.scVector Space.hbm Cert.KernelIdeal.S100000x16 EltTy.f32)
local notation "iV" => (Memref.whole Cert.KernelIdeal.main_v8_scv : Memref Cert.KernelIdeal.sig Kind.scVector Space.hbm Cert.KernelIdeal.S204800 EltTy.i32)
local notation "bV" => (Memref.whole Cert.KernelIdeal.main_v6_scv : Memref Cert.KernelIdeal.sig Kind.scVector Space.hbm Cert.KernelIdeal.S16 EltTy.f32)
local notation "oV" => (Memref.whole Cert.KernelIdeal.main_v9_scv : Memref Cert.KernelIdeal.sig Kind.scVector Space.hbm Cert.KernelIdeal.S4096x16 EltTy.f32)
local notation "s0" => (Memref.whole Cert.KernelIdeal.cc1_scratch0 : Memref Cert.KernelIdeal.sig Kind.scVector Space.vmem Cert.KernelIdeal.S6400 EltTy.i32)
local notation "s1" => (Memref.whole Cert.KernelIdeal.cc1_scratch1 : Memref Cert.KernelIdeal.sig Kind.scVector Space.vmem Cert.KernelIdeal.S6400x16 EltTy.f32)
local notation "s2" => (Memref.whole Cert.KernelIdeal.cc1_scratch2 : Memref Cert.KernelIdeal.sig Kind.scVector Space.vmem Cert.KernelIdeal.S16 EltTy.f32)
local notation "s3" => (Memref.whole Cert.KernelIdeal.cc1_scratch3 : Memref Cert.KernelIdeal.sig Kind.scVector Space.vmem Cert.KernelIdeal.S128x16 EltTy.f32)

/-! ## What the launch's handshakes carry -/

section Pay

variable (fp : Dev nD → S100000x16.Idx → F .f32) (fi : Dev nD → S204800.Idx → BitVec 32) (fb : Dev nD → S16.Idx → F .f32) (fo : Dev nD → S4096x16.Idx → F .f32)

/-- The worker on tile `i` of core `c`. -/
abbrev wk (c : Fin 2) (i : Fin 16) : Fin 32 := ⟨c.val + 2 * i.val, by omega⟩

variable [FloatOps F] [Named F]

/-- The one SparseCore call hands each worker its part of the four arrays and takes it back with the output's rows at `out`. -/
def P : (K (F := F)).Pay (nD := nD) (Val := Elt F) (Name := ℕ) (U := UU) where
  st := fun q d c => match q with | 0 => bigSep Finset.univ fun i : Fin 16 => part d (wk (Fin.cast nCore_zero c) i) (fp d) (fi d) (fb d) (fo d)
  dn := fun q d c => match q with | 0 => bigSep Finset.univ fun i : Fin 16 => part d (wk (Fin.cast nCore_zero c) i) (fp d) (fi d) (fb d) (out (fp d) (fi d) (fb d))
  go := fun q d c i => match q with | 0 => part d (wk (Fin.cast nCore_zero c) (Fin.cast nSub_zero i)) (fp d) (fi d) (fb d) (fo d)
  td := fun q d c i => match q with | 0 => part d (wk (Fin.cast nCore_zero c) (Fin.cast nSub_zero i)) (fp d) (fi d) (fb d) (out (fp d) (fi d) (fb d))
  x := fun _ _ => iprop(emp)

instance P_storable : (P fp fi fb fo).IsStorable where
  st q d c := match q with
    | 0 => (inferInstance : BI.Storable (upEmb : UEmb _ 𝕄) (bigSep Finset.univ fun i : Fin 16 => part d (wk (Fin.cast nCore_zero c) i) (fp d) (fi d) (fb d) (fo d)))
  dn q d c := match q with
    | 0 => (inferInstance : BI.Storable (upEmb : UEmb _ 𝕄) (bigSep Finset.univ fun i : Fin 16 => part d (wk (Fin.cast nCore_zero c) i) (fp d) (fi d) (fb d) (out (fp d) (fi d) (fb d))))
  go q d c i := match q with
    | 0 => (inferInstance : BI.Storable (upEmb : UEmb _ 𝕄) (part d (wk (Fin.cast nCore_zero c) (Fin.cast nSub_zero i)) (fp d) (fi d) (fb d) (fo d)))
  td q d c i := match q with
    | 0 => (inferInstance : BI.Storable (upEmb : UEmb _ 𝕄) (part d (wk (Fin.cast nCore_zero c) (Fin.cast nSub_zero i)) (fp d) (fi d) (fb d) (out (fp d) (fi d) (fb d))))

/-! ## The tile's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          pV (Memref.isWhole_whole _) iV (Memref.isWhole_whole _) bV (Memref.isWhole_whole _) oV (Memref.isWhole_whole _)
          s0 (Memref.isWhole_whole _) s1 (Memref.isWhole_whole _) s2 (Memref.isWhole_whole _) s3 (Memref.isWhole_whole _)
          cc1_scratch4 cc1_scoped0 cc1_scoped1 cc1_scoped2) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every worker meets its obligation, if every word of the flat text names a row of the table. -/
theorem tileObl (hF : (K (F := F)).Facts) (hin : ∀ d j, (fi d j).toNat < 100000) : (K (F := F)).TileObl (D (F := F)) 𝒱 (P fp fi fb fo) v₀ 0 := by
  intro d c i O W hO _ _
  simp only [show (P fp fi fb fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (fp d) (fi d) (fb d) (fo d) hF (hin d) O W hO).trans (wp_mono frame _ _ fun _ => obl_post)

/-! ## The arrays split among the workers and join -/

omit [FloatOps F] [Named F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] [Named F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P fp fi fb fo) 0 := by
  intro d c
  show (bigSep Finset.univ fun i : Fin 16 => part d (wk (Fin.cast nCore_zero c) i) (fp d) (fi d) (fb d) (fo d)) ⊢ |={Set.univ}=> iprop(
      (bigSep Finset.univ fun i : Fin ((K (F := F)).nSub 0) => part d (wk (Fin.cast nCore_zero c) (Fin.cast nSub_zero i)) (fp d) (fi d) (fb d) (fo d))
      ∗ ((bigSep Finset.univ fun i : Fin ((K (F := F)).nSub 0) =>
          part d (wk (Fin.cast nCore_zero c) (Fin.cast nSub_zero i)) (fp d) (fi d) (fb d) (out (fp d) (fi d) (fb d)))
          -∗ bigSep Finset.univ fun i : Fin 16 => part d (wk (Fin.cast nCore_zero c) i) (fp d) (fi d) (fb d) (out (fp d) (fi d) (fb d))))
  rw [bigSep_tasks (F := F) (fun i => part d (wk (Fin.cast nCore_zero c) i) (fp d) (fi d) (fb d) (fo d)),
    bigSep_tasks (F := F) (fun i => part d (wk (Fin.cast nCore_zero c) i) (fp d) (fi d) (fb d) (out (fp d) (fi d) (fb d)))]
  iintro H; imodintro
  isplitl [H]; · iexact H
  iintro H; iexact H

omit [FloatOps F] [Named F] in
theorem oRowSet_eq (w : Fin 32) : oRowSet w = (orow w).set := by
  show ((View.whole (main_v9_scv : Ref sig .scVector)).slice (orow w)).set = _
  rw [View.set_slice]; exact Finset.map_refl

omit [FloatOps F] [Named F] in
/-- The output array is the workers' rows. -/
theorem oPts_rows (d : Dev nD) (f : Buf (Elt F) (oLoc d)) :
    (oLoc d ↦{fullShare} f : sProp 𝕄) = bigSep Finset.univ fun w : Fin 32 => oLoc d ↦[oRowSet w]{fullShare} f := by
  have hd : ∀ i ∈ (Finset.univ : Finset (Fin 32)), ∀ j ∈ (Finset.univ : Finset (Fin 32)), i ≠ j → Disjoint (oRowSet i) (oRowSet j) :=
    fun i _ j _ h => by rw [oRowSet_eq, oRowSet_eq]; exact Rect.part_disjoint odiv h
  have hc : (Finset.univ : Finset (Fin 32)).biUnion oRowSet = Finset.univ :=
    (Finset.biUnion_congr rfl fun i _ => oRowSet_eq i).trans (Rect.biUnion_part odiv)
  rw [← pointsTo_biUnion Finset.univ (ℓ := oLoc d) oRowSet hd, hc]; try rfl

omit [FloatOps F] [Named F] in
/-- An array that every worker reads is the workers' shares. -/
theorem shares {ℓ : Loc nD τ sig} (f : Buf (Elt F) ℓ) :
    (ℓ ↦{fullShare} f : sProp 𝕄) = bigSep Finset.univ fun w : Fin 32 => ℓ ↦{rq w} f :=
  Transfers.pointsTo_deal Finset.univ ⟨0, Finset.mem_univ _⟩ fullShare

/-- The four arrays whole, the output at contents `f`. -/
abbrev whole4 (d : Dev nD) (f : S4096x16.Idx → F .f32) : sProp 𝕄 :=
  iprop((pLoc d ↦{fullShare} (fp d : Buf (Elt F) (pLoc d))) ∗ (iLoc d ↦{fullShare} (fi d : Buf (Elt F) (iLoc d)))
    ∗ (bLoc d ↦{fullShare} (fb d : Buf (Elt F) (bLoc d))) ∗ (oLoc d ↦{fullShare} (f : Buf (Elt F) (oLoc d))))

omit [FloatOps F] [Named F] in
/-- The four arrays whole are the workers' parts, core by core and tile by tile. -/
theorem whole4_parts (d : Dev nD) (f : S4096x16.Idx → F .f32) :
    whole4 fp fi fb d f = bigSep Finset.univ fun c : Fin 2 => bigSep Finset.univ fun i : Fin 16 => part d (wk c i) (fp d) (fi d) (fb d) f := by
  unfold whole4
  rw [shares (ℓ := pLoc d), shares (ℓ := iLoc d), shares (ℓ := bLoc d), oPts_rows]
  rw [← bigSep_sep', ← bigSep_sep', ← bigSep_sep',
    bigSep_univ_equiv (finProdFinEquiv : Fin 16 × Fin 2 ≃ Fin (16 * 2)), bigSep_univ_prod, bigSep_univ_comm]
  refine bigSep_congr fun c _ => bigSep_congr fun i _ => ?_
  exact congrArg (fun w => part d w (fp d) (fi d) (fb d) f) (Fin.ext rfl)

theorem st0_eq (d : Dev nD) : (bigSep Finset.univ fun c : Fin ((K (F := F)).nCore 0) => (P fp fi fb fo).st 0 d c) = whole4 fp fi fb d (fo d) :=
  (bigSep_cores (fun c => bigSep Finset.univ fun i : Fin 16 => part d (wk c i) (fp d) (fi d) (fb d) (fo d))).trans (whole4_parts fp fi fb d (fo d)).symm
theorem dn0_eq (d : Dev nD) : (bigSep Finset.univ fun c : Fin ((K (F := F)).nCore 0) => (P fp fi fb fo).dn 0 d c) = whole4 fp fi fb d (out (fp d) (fi d) (fb d)) :=
  (bigSep_cores (fun c => bigSep Finset.univ fun i : Fin 16 => part d (wk c i) (fp d) (fi d) (fb d) (out (fp d) (fi d) (fb d)))).trans
    (whole4_parts fp fi fb d (out (fp d) (fi d) (fb d))).symm

end Pay

end Cert.Proof.KI

end
-- ==== Proof.IdealRegion.lean ====
/-
  The TensorCore call: the table projected block by block by the padded weights. Its body, its proof data at an entry
  valuation, and the region over the TensorCore's arrays.
-/
module

public import proofs.«01_k».proof.Proof.IdealSplit
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.Pipeline.ValueKit.Basic

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation BodyObligationLoose)
open Idealize.ShloMosaic.TcCoe

/-! ## The body of the projection -/

section Body

variable [FloatOps F] [Named F]

/-- The body of the projection: from the table's block at `X0` and the padded weights at `X1` it leaves the result's block at their
    product, the other two as they were. -/
theorem proj_body (c : Dev nD) (i : grid0.Coords) (M0 : Memref sig .tc .vmem S2000x64 .f32) (h0 : M0.IsWhole) (M1 : Memref sig .tc .vmem S64x16 .f32)
    (h1 : M1.IsWhole) (M2 : Memref sig .tc .vmem S2000x16 .f32) (h2 : M2.IsWhole) (X0 : S2000x64.Idx → Elt F .f32) (X1 : S64x16.Idx → Elt F .f32)
    (X2 : S2000x16.Idx → Elt F .f32) (Q : PUnit → sProp 𝕄) :
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1 ∗ owns (c : Thread nD τ) M2 fullShare (k0_pay1 X0 X1)) -∗ Q ⟨⟩))
      ⊢ wp frame (wpE (defs₀ (F := F)) 𝒱₀ c none) Set.univ (cc0__proj_body i M0 h0 M1 h1 M2 h2) Q := by
  simp only [cc0__proj_body_eq_skeleton]; unfold cc0__proj_body_skel
  unfold owns
  simp only [h0.set_eq_univ, h1.set_eq_univ, h2.set_eq_univ]
  iintro ⟨⟨⟨%f0, %hf0, H0⟩, ⟨%f1, %hf1, H1⟩, ⟨%f2, %hf2, H2⟩⟩, Hk⟩
  sl_exec!
  sl_step
  iapply Hk
  isplitl [H0]
  · iexists f0; isplitr; · ipureintro; exact hf0
    iexact H0
  isplitl [H1]
  · iexists f1; isplitr; · ipureintro; exact hf1
    iexact H1
  iexists _; isplitr; swap; (· iexact H2); ipureintro
  sl_unfold_run_names
  rw [View.read_writes_junk_eq_canon]
  refine (View.canon_cons_unit_lit _ _ _ (fun a => by fin_cases a <;> rfl)).trans ?_
  rw [View.readAt_eq_ld, View.readAt_eq_ld, hf0, hf1]
  exact congrArg₂ k0_pay1 (View.ld_unit_lit _ X0 (fun a => by fin_cases a <;> rfl)) (View.ld_unit_lit _ X1 (fun a => by fin_cases a <;> rfl))

/-! ## The proof data at an entry valuation -/

variable (A1 : Dev nD → S100000x64.Idx → F .f32) (A2 : Dev nD → S64x16.Idx → F .f32) (A3 : Dev nD → S100000x16.Idx → F .f32)

/-- The table's block at point `t`. -/
def tabBlk (c : Dev nD) (t : Fin cfg0.N) : S2000x64.Idx → Elt F .f32 := ((cfg0.win 0).blk t).view.read (Elt F) (A1 c)

/-- The padded weights' block at point `t` (the whole array). -/
def wBlk (c : Dev nD) (t : Fin cfg0.N) : S64x16.Idx → Elt F .f32 := ((cfg0.win 1).blk t).view.read (Elt F) (A2 c)

/-- The proof data of the projection: the table at `A1`, the padded weights at `A2`, the result at `A3` when it starts; after each point
    the inputs' blocks as fetched and the result's block at their product; the units of the SparseCore call owed throughout. -/
def dat (c : Dev nD) : Dat τ (Elt F) (HIx 1) ℕ UU ℕ cfg0 c where
  A w := match w with
    | ⟨0, _⟩ => A1 c
    | ⟨1, _⟩ => A2 c
    | ⟨2, _⟩ => A3 c
  after w t := match w with
    | ⟨0, _⟩ => tabBlk A1 c t
    | ⟨1, _⟩ => wBlk A2 c t
    | ⟨2, _⟩ => k0_pay1 (tabBlk A1 c t) (wBlk A2 c t)
  Φ _ := BI.emp
  q _ := fullShare
  owed _ := (K (F := F)).Otc c 0
  recorded _ := {p | (K (F := F)).lev (T c, p.1) p.2 ≤ 8 * (SparseCore.Cfg.Blocks.one 1).fst 0}

/-- When the body runs, the table's staging buffer holds the table's block. -/
theorem before_tab (c : Dev nD) (t : Fin cfg0.N) (d) : (dat A1 A2 A3 c).before 0 t d = tabBlk A1 c t :=
  ((dat A1 A2 A3 c).before_in_eq_fetched 0 rfl (fun _ => rfl) (fun _ _ _ => rfl) (fun _ => rfl) t d).trans rfl

/-- And the weights' staging buffer the padded weights. -/
theorem before_w (c : Dev nD) (t : Fin cfg0.N) (d) : (dat A1 A2 A3 c).before 1 t d = wBlk A2 c t :=
  ((dat A1 A2 A3 c).before_in_eq_fetched 1 rfl (fun _ => rfl) (fun _ _ _ => rfl) (fun _ => rfl) t d).trans rfl

/-- The body at a point, from the staging buffers as the pipeline hands them over to what the proof data say. -/
theorem body_point (c : Dev nD) (t : Fin cfg0.N) :
    iprop((dat A1 A2 A3 c).Φ t.castSucc ∗ (dat A1 A2 A3 c).owesAt none t.castSucc
          ∗ (∃ d, owns (c : Thread nD τ) (st0_0 t) fullShare ((dat A1 A2 A3 c).before 0 t d))
          ∗ (∃ d, owns (c : Thread nD τ) (st0_1 t) fullShare ((dat A1 A2 A3 c).before 1 t d))
          ∗ (∃ d, owns (c : Thread nD τ) (st0_2 t) fullShare ((dat A1 A2 A3 c).before 2 t d)))
      ⊢ wp frame (wpE defs₀ 𝒱₀ c none) Set.univ (bodyAt0 (F := F) t) fun _ =>
        iprop((dat A1 A2 A3 c).Φ t.succ ∗ (dat A1 A2 A3 c).owesAt none t.succ
          ∗ owns (c : Thread nD τ) (st0_0 t) fullShare (tabBlk A1 c t)
          ∗ owns (c : Thread nD τ) (st0_1 t) fullShare (wBlk A2 c t)
          ∗ owns (c : Thread nD τ) (st0_2 t) fullShare (k0_pay1 (tabBlk A1 c t) (wBlk A2 c t))) := by
  simp only [before_tab, before_w]
  rw [show (dat A1 A2 A3 c).Φ t.succ = (dat A1 A2 A3 c).Φ t.castSucc from rfl,
    show (dat A1 A2 A3 c).owesAt none t.succ = (dat A1 A2 A3 c).owesAt none t.castSucc from rfl]
  iintro ⟨HΦ, Ho, ⟨%d0, H0⟩, ⟨%d1, H1⟩, ⟨%d2, H2⟩⟩
  iapply (proj_body c _ _ _ _ _ _ _ (tabBlk A1 c t) (wBlk A2 c t) _ _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]; · iexact H0
  isplitl [H1]; · iexact H1
  iexact H2

/-- The pipeline's body obligation. -/
theorem body_at (c : Dev nD) : BodyObligation (dat A1 A2 A3 c) defs₀ 𝒱₀ none Set.univ := fun t => by
  rw [bigSep_W0, bigSep_W0]
  exact body_point A1 A2 A3 c t

/-! ## The region over the TensorCore's arrays -/

/-- The single pipeline's tables: none. -/
abbrev adm : (p : Fin 1) → (pcfgs (F := F) p).Adm := fun p => (cfgs p).toPCfg_adm

/-- A valuation of the TensorCore's references on every device. -/
abbrev Vals (F : FTy → Type) : Type := (c : Dev nD) → (b : Ref sig .tc) → Buf (Elt F) ((c : Thread nD τ).loc b)

/-- The pipeline's proof data at a valuation of the arrays. -/
def pdats (V : Vals F) : (p : Fin 1) → (c : Dev nD) → Dat τ (Elt F) (HIx 1) ℕ UU ℕ (Pipeline.pin (pcfgs (F := F)) adm p) c :=
  fun _ c => dat (fun c => V c main_arg1) (fun c => V c main_v3) (fun c => V c main_v7) c

/-- The projected table: the result's array after all points. -/
def proj (V : Vals F) (c : Dev nD) : S100000x16.Idx → F .f32 := (pdats V 0 c).arrAt 2 cfg0.N

/-- The TensorCore owes no unit under the index of the kernels' own waits. -/
theorem owed_none (c : Dev nD) (g : GSem nD τ sig) : (K (F := F)).Otc (N := 1) c 0 g none = 0 := by
  by_contra h
  exact absurd (SparseCore.Cfg.lev_of_Otc_pos (Nat.pos_of_ne_zero h)) (by simp [SparseCore.Cfg.lev])

/-- The TensorCore's units before the SparseCore call, beside the waits it has recorded. -/
abbrev debt (c : Dev nD) : sProp 𝕄 :=
  iprop(∃ W, ⌜(K (F := F)).WBelow (T c) W (8 * (SparseCore.Cfg.Blocks.one 1).fst 0)⌝ ∗ owes (c : Thread nD τ) ((K (F := F)).Otc (N := 1) c 0) W)

set_option backward.isDefEq.respectTransparency.types false in
/-- The projection's region: entered from the arrays at `V`, left at any `V'` that has the result at the projected table and
    agrees with `V` elsewhere. -/
def reg (V V' : Vals F) (hout : ∀ c, V' c main_v7 = proj V c) (hne : ∀ c (b : Ref sig .tc), b ≠ main_v7 → V' c b = V c b) :
    Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_at _ _ _ c).loose
  hwaits c := Pipeline.cellsWaits_intro _ _ _ _ _ fun w s t => (K (F := F)).mayWait_none _ (owed_none c)
  pre c := iprop(unscopedBufs c (V c) ∗ debt c)
  post c := iprop(unscopedBufs c (V' c) ∗ debt c)
  X _ := BI.emp
  Y _ := BI.emp
  Z c := Pipeline.unscopedRest (Ix := HIx 1) (Name := ℕ) (U := UU) (Lvl := ℕ) spec0 c (V c)
  hentry c := by
    have hs := Pipeline.arrays_of_unscopedBufs (p := 0) (pcfgs (F := F)) adm (pdats V) launch0.win launch0.arr_whole c
      ((pdats V 0 c).share_full fun _ => rfl) (V c) (fun w => by fin_cases w <;> rfl)
    rw [Pipeline.ownSems0_none]
    iintro ⟨⟨Hb, %W, %hW, HO⟩, -, -⟩
    ihave H := hs $$ Hb
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p hp)
      iexact HO
    isplitr; · iempintro
    iexact Hr
  hin c := by
    rw [show (pdats V 0 c).Φ 0 = (BI.emp : sProp 𝕄) from rfl]
    iintro ⟨He, -, -⟩; iexact He
  hout c := by
    rw [Pipeline.ownSems0_none, show Pipeline.scopedRest (pcfgs (F := F) 0).spec c = _ from scopedRest0_eq c]
    rw [show (pdats V 0 c).Φ (Fin.last (Pipeline.pin (pcfgs (F := F)) adm 0).N) = (BI.emp : sProp 𝕄) from rfl]
    iintro He
    isplitl [He]; · iexact He
    isplitr; · iempintro
    iempintro
  hexit c := by
    have hj := Pipeline.unscopedBufs_of_arrays (p := 0) (pcfgs (F := F)) adm (Ix := HIx 1) (Name := ℕ) (U := UU) (Lvl := ℕ) launch0.win
      launch0.arr_whole c (pdats V) ((pdats V 0 c).share_full fun _ => rfl) (V c) (V' c) ((pdats V 0 c).arrAt · cfg0.N)
      (fun w => by
        fin_cases w
        · exact ((pdats V 0 c).arrAt_in 0 rfl _).trans (hne c main_arg1 (by decide)).symm
        · exact ((pdats V 0 c).arrAt_in 1 rfl _).trans (hne c main_v3 (by decide)).symm
        · exact (hout c).symm)
      (fun b hb => hne c b fun h => hb (h ▸ Finset.mem_image.mpr ⟨2, Finset.mem_univ _, rfl⟩))
    iintro ⟨Ha, ⟨%W, %hW, HO⟩, -, Hr⟩
    imodintro
    isplitl [Ha Hr]; · iapply hj; isplitl [Ha] <;> iassumption
    iexists W; isplitr
    · ipureintro
      intro p hp
      rcases hW hp with h | ⟨w, s, h⟩
      · exact h
      · rw [h]; exact Nat.zero_le _
    iexact HO

end Body

end Cert.Proof.KI

end
-- ==== Proof.IdealMain.lean ====
/-
  @main on the TensorCore: the padded weights and bias, the projection's region, the reshaped text, the SparseCore call and the
  slice; and the run of the whole program with the result's value.
-/
module

public import proofs.«01_k».proof.Proof.IdealRegion

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.ShloMosaic.StableHlo (held held_sub_split held_congr seq after wp_seq wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type}

local notation "𝕄" => MT nD τ sig (HIx 1) (Elt F) ℕ UU ℕ

/-! ## The host operations and the arrays after them -/

section Host

variable [FloatOps F] [Named F]

/-- A TensorCore reference as a buffer of its device. -/
abbrev dref (b : Ref sig .tc) : DevRef τ sig := Proc.devRef .tc b

/-- The host operations before the projection: the padded weights and the padded bias. -/
def padOps : List (HloOp τ sig (Elt F)) := [
  StableHlo.nullary main_cst (constant S_ .f32 0x00000000#32),
  StableHlo.unary main_cst main_v0 (broadcastInDim S64x16 ![] bcast_S_S64x16 : (⟨S_, .f32⟩ : BufTy).Contents (Elt F) → (⟨S64x16, .f32⟩ : BufTy).Contents (Elt F)),
  StableHlo.unary main_arg2 main_v1 ((transpose S64x2 [1, 0] · transposes_S2x64_S64x2_1_0) : (⟨S2x64, .f32⟩ : BufTy).Contents (Elt F) → (⟨S64x2, .f32⟩ : BufTy).Contents (Elt F)),
  StableHlo.nullary main_c (constantI S_ 32 0#32),
  StableHlo.unary main_c main_v2 (broadcastInDim S1 ![] bcast_S_S1 : (⟨S_, .i32⟩ : BufTy).Contents (Elt F) → (⟨S1, .i32⟩ : BufTy).Contents (Elt F)),
  StableHlo.ternary main_v0 main_v2 main_v1 main_v3 ((fun x i u => Host.scatter scatter_S64x16_S1_S64x2_01_n_1_0 (fun _ b => b) x i u) : (⟨S64x16, .f32⟩ : BufTy).Contents (Elt F) → (⟨S1, .i32⟩ : BufTy).Contents (Elt F) → (⟨S64x2, .f32⟩ : BufTy).Contents (Elt F) → (⟨S64x16, .f32⟩ : BufTy).Contents (Elt F)),
  StableHlo.nullary main_cst_0 (constant S_ .f32 0x00000000#32),
  StableHlo.unary main_cst_0 main_v4 (broadcastInDim S16 ![] bcast_S_S16 : (⟨S_, .f32⟩ : BufTy).Contents (Elt F) → (⟨S16, .f32⟩ : BufTy).Contents (Elt F)),
  StableHlo.nullary main_c_1 (constantI S_ 32 0#32),
  StableHlo.unary main_c_1 main_v5 (broadcastInDim S1 ![] bcast_S_S1 : (⟨S_, .i32⟩ : BufTy).Contents (Elt F) → (⟨S1, .i32⟩ : BufTy).Contents (Elt F)),
  StableHlo.ternary main_v4 main_v5 main_arg3 main_v6 ((fun x i u => Host.scatter scatter_S16_S1_S2_0_n_0_0 (fun _ b => b) x i u) : (⟨S16, .f32⟩ : BufTy).Contents (Elt F) → (⟨S1, .i32⟩ : BufTy).Contents (Elt F) → (⟨S2, .f32⟩ : BufTy).Contents (Elt F) → (⟨S16, .f32⟩ : BufTy).Contents (Elt F))]

/-- The reshape of the text to one axis. -/
abbrev flatOp : HloOp τ sig (Elt F) := StableHlo.reshape main_arg0 main_v8 (rfl : (.i32 : EltTy) = .i32) shapeCasts_S4096x50_S204800

/-- The slice of the first two columns. -/
abbrev cutOp : HloOp τ sig (Elt F) :=
  StableHlo.unary main_v9 main_v10 ((extractStridedSlice S4096x2 ![0, 0] · slices_S4096x16_S4096x2_0_0) : (⟨S4096x16, .f32⟩ : BufTy).Contents (Elt F) → (⟨S4096x2, .f32⟩ : BufTy).Contents (Elt F))

/-- The operations after the padding: the projection, the reshape, the SparseCore call, the slice. -/
def rest (d : Dev nD) : Prog (TpuEff nD τ sig (Elt F) (SparseCore.Sig (Pipeline.Sig Λ₀ (Fin 1) fun p => (pcfgs (F := F) p).Adm) 1) .tc) PUnit := do
  Prog.lift (.customCall (SparseCore.inner (Pipeline.entry 0)) ())
  hlo rfl flatOp (fun _ => .ret ⟨⟩)
  sc.run d 0
  hlo rfl cutOp (fun _ => .ret ⟨⟩)
  pure ⟨⟩

/-- @main is the padding, then the rest. -/
theorem main_split (d : Dev nD) : main (F := F) d = seq padOps >>= fun _ => rest d := by
  unfold padOps
  simp only [seq, bind_assoc, pure_bind]
  rfl

/-- The TensorCore's arrays. -/
def arrs : Finset (DevRef τ sig) := (StableHlo.tcRefs τ sig).filter fun b => ¬ b.isScoped

/-- The launch's arrays at a valuation are those held at it. -/
theorem unscoped_arrs (d : Dev nD) (W : Valuation τ sig (Elt F)) :
    (unscopedBufs d (fun b => W (dref b)) : sProp 𝕄) = held (T d) arrs W := by
  unfold unscopedBufs held arrs StableHlo.tcRefs
  rw [Finset.filter_map, bigSep_map]
  rfl

variable (m : (ℓ : Loc nD τ sig) → Buf (Elt F) ℓ)

/-- The arrays at launch, -/
def W0 (d : Dev nD) : Valuation τ sig (Elt F) := fun b => m (d, b)
/-- after the padding, -/
def W1 (d : Dev nD) : Valuation τ sig (Elt F) := after padOps (W0 m d)
/-- after the projection, -/
def W2 (d : Dev nD) : Valuation τ sig (Elt F) := Function.update (W1 m d) (dref main_v7) (proj (fun c b => W1 m c (dref b)) d)
/-- after the reshape, -/
def W3 (d : Dev nD) : Valuation τ sig (Elt F) := (flatOp (F := F)).result (W2 m d)
/-- after the SparseCore call, -/
def W4 (d : Dev nD) : Valuation τ sig (Elt F) :=
  Function.update (W3 m d) (dref main_v9) (out (W3 m d (dref main_v7)) (W3 m d (dref main_v8)) (W3 m d (dref main_v6)))
/-- and after the slice. -/
def W5 (d : Dev nD) : Valuation τ sig (Elt F) := (cutOp (F := F)).result (W4 m d)

/-- The arrays the SparseCore call reads and writes. -/
abbrev callSet : Finset (DevRef τ sig) := {dref main_v7, dref main_v8, dref main_v6, dref main_v9}

theorem callSet_sub : callSet ⊆ arrs := by decide

/-- Those four, held at a valuation. -/
theorem held_callSet (d : Dev nD) (W : Valuation τ sig (Elt F)) :
    (held (T d) callSet W : sProp 𝕄)
      = iprop((pLoc d ↦{fullShare} W (dref main_v7)) ∗ (iLoc d ↦{fullShare} W (dref main_v8)) ∗ (bLoc d ↦{fullShare} W (dref main_v6)) ∗ (oLoc d ↦{fullShare} W (dref main_v9))) := by
  unfold held callSet
  rw [SparseCore.bigSep_insert' (by decide), SparseCore.bigSep_insert' (by decide), SparseCore.bigSep_insert' (by decide), bigSep_singleton]

/-- The arrays the claims read: the four arguments and the result. -/
abbrev readSet : Finset (DevRef τ sig) := {dref main_arg0, dref main_arg1, dref main_arg2, dref main_arg3, dref main_v10}

theorem readSet_sub : readSet ⊆ arrs := by decide

theorem held_readSet (d : Dev nD) (W : Valuation τ sig (Elt F)) :
    (held (T d) readSet W : sProp 𝕄)
      = iprop(((SparseCore.T d).loc main_arg0 ↦{fullShare} W (dref main_arg0)) ∗ ((SparseCore.T d).loc main_arg1 ↦{fullShare} W (dref main_arg1)) ∗ ((SparseCore.T d).loc main_arg2 ↦{fullShare} W (dref main_arg2))
          ∗ ((SparseCore.T d).loc main_arg3 ↦{fullShare} W (dref main_arg3)) ∗ ((SparseCore.T d).loc main_v10 ↦{fullShare} W (dref main_v10))) := by
  unfold held readSet
  rw [SparseCore.bigSep_insert' (by decide), SparseCore.bigSep_insert' (by decide), SparseCore.bigSep_insert' (by decide), SparseCore.bigSep_insert' (by decide), bigSep_singleton]

/-- The references the padding writes. -/
abbrev padded : List (Ref sig .tc) := [main_cst, main_v0, main_v1, main_c, main_v2, main_v3, main_cst_0, main_v4, main_c_1, main_v5, main_v6]

/-- An array the padding does not write is as at launch. -/
theorem W1_of (d : Dev nD) (b : Ref sig .tc) (hb : b ∉ padded) : W1 m d (dref b) = m ((SparseCore.T d).loc b) :=
  StableHlo.after_of_writes_sub padOps (W0 m d) (StableHlo.forall_writes_sub_of_map rfl) hb

/-- An array nothing writes is at the end as at launch. -/
theorem W5_of (d : Dev nD) (b : Ref sig .tc) (hb : b ∉ padded) (h7 : dref b ≠ dref main_v7) (h8 : dref b ∉ ({dref main_v8} : Finset (DevRef τ sig)))
    (h9 : dref b ≠ dref main_v9) (h10 : dref b ∉ ({dref main_v10} : Finset (DevRef τ sig))) : W5 m d (dref b) = m ((SparseCore.T d).loc b) := by
  unfold W5 W4 W3 W2
  rw [(cutOp (F := F)).result_of_not_mem _ h10, Function.update_of_ne h9, (flatOp (F := F)).result_of_not_mem _ h8, Function.update_of_ne h7]
  exact W1_of m d b hb

theorem padOps_sub : ∀ op ∈ padOps (F := F), op.bufs ⊆ arrs := by
  unfold padOps
  simp only [List.forall_mem_cons]
  refine ⟨?_, ?_, ?_, ?_, ?_, ?_, ?_, ?_, ?_, ?_, ?_, fun _ h => nomatch h⟩
  · show ({dref main_cst} : Finset (DevRef τ sig)) ⊆ arrs; decide
  · show ({dref main_cst, dref main_v0} : Finset (DevRef τ sig)) ⊆ arrs; decide
  · show ({dref main_arg2, dref main_v1} : Finset (DevRef τ sig)) ⊆ arrs; decide
  · show ({dref main_c} : Finset (DevRef τ sig)) ⊆ arrs; decide
  · show ({dref main_c, dref main_v2} : Finset (DevRef τ sig)) ⊆ arrs; decide
  · show ({dref main_v0, dref main_v2, dref main_v1, dref main_v3} : Finset (DevRef τ sig)) ⊆ arrs; decide
  · show ({dref main_cst_0} : Finset (DevRef τ sig)) ⊆ arrs; decide
  · show ({dref main_cst_0, dref main_v4} : Finset (DevRef τ sig)) ⊆ arrs; decide
  · show ({dref main_c_1} : Finset (DevRef τ sig)) ⊆ arrs; decide
  · show ({dref main_c_1, dref main_v5} : Finset (DevRef τ sig)) ⊆ arrs; decide
  · show ({dref main_v4, dref main_v5, dref main_arg3, dref main_v6} : Finset (DevRef τ sig)) ⊆ arrs; decide

theorem padOps_fresh : ∀ op ∈ padOps (F := F), op.fresh = ∅ :=
  List.forall_iff_forall_mem.mp (StableHlo.forall_fresh_of_map rfl)

/-! ## The ghost state of the launch -/

/-- The pipeline's rounds within the ghost state. -/
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

/-- The ghost state the TensorCore's region takes: the staging cells' rounds and their tokens. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-! ## The region, as @main runs it -/

/-- @main's call of the region is the pipeline's own call, over the extended signature. -/
theorem call_lift : (Prog.lift (.customCall (SparseCore.inner (Pipeline.entry 0)) ())
      : Prog (TpuEff nD τ sig (Elt F) (SparseCore.Sig (ΛP (F := F)) 1) .tc) PUnit)
    = SparseCore.liftProg (Q := 1) (.op (.customCall (Pipeline.entry (Λ₀ := Λ₀) (A := fun p => (pcfgs (F := F) p).Adm) 0) ()) .ret
        : Prog (TpuEff nD τ sig (Elt F) (ΛP (F := F)) .tc) PUnit) := rfl

set_option backward.isDefEq.respectTransparency.types false in
/-- The projection as @main calls it: from the arrays at `V` to the arrays at `V'`. -/
theorem region_wp (X X' : Vals F) (hout : ∀ c, X' c main_v7 = proj X c) (hne : ∀ c (b : Ref sig .tc), b ≠ main_v7 → X' c b = X c b) (d : Dev nD)
    (Q : PUnit → sProp 𝕄) :
    iprop((iprop(boundary (SparseCore.T d : Thread nD τ) ∗ (unscopedBufs d (X' d) ∗ debt d)) -∗ Q ⟨⟩)
        ∗ boundary (SparseCore.T d : Thread nD τ) ∗ (unscopedBufs d (X d) ∗ debt d) ∗ levAts (K (F := F)).L (K (F := F)).lev ∗ G d)
      ⊢ wp frame (wpE ((K (F := F)).defs D) 𝒱 (SparseCore.T d) none) Set.univ
          (Prog.lift (.customCall (SparseCore.inner (Pipeline.entry 0)) ())) Q := by
  rw [call_lift]
  have h := Pipeline.RegionSeg.wp (pcfgs (F := F)) adm (pdats X) none launch0.cellOf_inj EP defs₀ 𝒱₀ (K (F := F)).L (K (F := F)).lev
    (reg X X' hout hne) d none (fun _ h => nomatch h) .ret Q
  rw [show (reg X X' hout hne).pre d = iprop(unscopedBufs d (X d) ∗ debt d) from rfl,
    show (reg X X' hout hne).post d = iprop(unscopedBufs d (X' d) ∗ debt d) from rfl] at h
  iintro ⟨Hk, Hb, Hpre, Hl, Hg, Ht⟩
  iapply ((K (F := F)).wp_liftProg D 𝒱 (SparseCore.T d) Set.univ none (.op (.customCall (Pipeline.entry 0) ()) .ret) Q)
  iapply h
  isplitl [Hk]
  · iintro H
    rw [wp_ret]; imodintro
    iapply Hk; iexact H
  isplitl [Hb]; · iexact Hb
  isplitl [Hpre]; · iexact Hpre
  isplitl [Hl]; · iexact Hl
  isplitl [Hg]; · iexact Hg
  iexact Ht

/-! ## @main -/

variable (ρ : Dev nD → PrngReg)

/-- What the SparseCore call takes and gives back: the projected table, the flat text, the padded bias, and the result before it. -/
abbrev PM : (K (F := F)).Pay (nD := nD) (N := 1) (Val := Elt F) (Name := ℕ) (U := UU) :=
  P (fun d => W3 m d (dref main_v7)) (fun d => W3 m d (dref main_v8)) (fun d => W3 m d (dref main_v6)) (fun d => W3 m d (dref main_v9))

/-- What @main leaves the claims: the arguments and the result, at the last valuation. -/
abbrev FIN (d : Dev nD) : sProp 𝕄 := held (SparseCore.T d) readSet (W5 m d)

/-- The arrays at the first valuation are the launch's. -/
theorem unscoped_W0 (d : Dev nD) : (unscopedBufs d (fun b => m ((SparseCore.T d).loc b)) : sProp 𝕄) = held (SparseCore.T d) arrs (W0 m d) :=
  unscoped_arrs d (W0 m d)

/-- The call's four arrays before it, from all of them. -/
theorem held_W3 (d : Dev nD) :
    (held (SparseCore.T d) arrs ((flatOp (F := F)).result (W2 m d)) : sProp 𝕄)
      = iprop(whole4 (fun d => W3 m d (dref main_v7)) (fun d => W3 m d (dref main_v8)) (fun d => W3 m d (dref main_v6)) d (W3 m d (dref main_v9))
          ∗ held (SparseCore.T d) (arrs \ callSet) (W3 m d)) := by
  show held (SparseCore.T d) arrs (W3 m d) = _
  rw [held_sub_split _ callSet_sub, held_callSet]

/-- And after it. -/
theorem held_W4 (d : Dev nD) :
    (held (SparseCore.T d) arrs (W4 m d) : sProp 𝕄)
      = iprop(whole4 (fun d => W3 m d (dref main_v7)) (fun d => W3 m d (dref main_v8)) (fun d => W3 m d (dref main_v6)) d
            (out (W3 m d (dref main_v7)) (W3 m d (dref main_v8)) (W3 m d (dref main_v6)))
          ∗ held (SparseCore.T d) (arrs \ callSet) (W3 m d)) := by
  have hc : (held (SparseCore.T d) (arrs \ callSet) (W4 m d) : sProp 𝕄) = held (SparseCore.T d) (arrs \ callSet) (W3 m d) :=
    held_congr _ fun b hb => Function.update_of_ne (fun e => (Finset.mem_sdiff.mp hb).2 (by rw [e]; decide)) _ _
  rw [held_sub_split _ callSet_sub, held_callSet, hc]
  unfold W4
  rw [Function.update_self, Function.update_of_ne (by decide), Function.update_of_ne (by decide), Function.update_of_ne (by decide)]

/-- The arrays the claims read, at the end. -/
theorem held_W5 (d : Dev nD) :
    (held (SparseCore.T d) arrs ((cutOp (F := F)).result (W4 m d)) : sProp 𝕄) = iprop(FIN m d ∗ held (SparseCore.T d) (arrs \ readSet) (W5 m d)) :=
  held_sub_split (SparseCore.T d) readSet_sub (W5 m d)

theorem flatOp_sub : (flatOp (F := F)).bufs ⊆ arrs := show ({dref main_arg0, dref main_v8} : Finset (DevRef τ sig)) ⊆ arrs by decide
theorem cutOp_sub : (cutOp (F := F)).bufs ⊆ arrs := show ({dref main_v9, dref main_v10} : Finset (DevRef τ sig)) ⊆ arrs by decide

/-- The TensorCore's state before the call is what it owes beside the rest. -/
theorem tcSt_open (d : Dev nD) : ∃ R : sProp 𝕄, (K (F := F)).tcSt EH d 0 = iprop(debt d ∗ R) := ⟨_, rfl⟩

set_option backward.isDefEq.respectTransparency.types false in
/-- The operations after the padding, from the arrays at `W1` to those at `W5`. -/
theorem rest_wp (κ : GSem nD τ sig → ℕ) (d : Dev nD) :
    iprop((K (F := F)).ctx EH (PM m) κ ∗ (K (F := F)).tcSt EH d 0 ∗ boundary (SparseCore.T d : Thread nD τ) ∗ held (SparseCore.T d) arrs (W1 m d) ∗ (K (F := F)).tcSems0 d ∗ G d)
      ⊢ wp frame (wpE ((K (F := F)).defs D) 𝒱 (SparseCore.T d) none) Set.univ (rest d)
          fun _ => iprop((K (F := F)).tcSt EH d 1 ∗ FIN m d ∗ boundary (SparseCore.T d : Thread nD τ) ∗ (K (F := F)).tcSems0 d) := by
  unfold rest
  simp only [wp_bind, wp_pure]
  iintro ⟨#Hctx, Hst, Hb, Hh, Hts, HG⟩
  ihave #Hl := ((K (F := F)).ctx_levAts κ) $$ Hctx
  -- the projection
  iapply (region_wp (fun c b => W1 m c (dref b)) (fun c b => W2 m c (dref b)) (fun c => Function.update_self _ _ _)
    (fun c b hb => Function.update_of_ne (StableHlo.devRef_ne_of_ne hb) _ _) d _)
  obtain ⟨R, hR⟩ := tcSt_open (F := F) d
  ihave Hst := (Entails.of_eq hR) $$ Hst
  icases Hst with ⟨HO, Hst⟩
  isplitr [Hb Hh HG HO]; rotate_left
  · isplitl [Hb]; · iexact Hb
    isplitl [Hh HO]
    · isplitl [Hh]
      · rw [unscoped_arrs]; iexact Hh
      iexact HO
    isplitr; · iexact Hl
    iexact HG
  rw [unscoped_arrs]
  iintro ⟨Hb, Hh, HO⟩
  -- the reshape
  iapply (wp_hlo_within 𝒱 (SparseCore.T d) none Set.univ (op := flatOp) (S := arrs) flatOp_sub (V := W2 m d)) $$ [Hb Hh]
  · isplitl [Hb] <;> iassumption
  iintro ⟨Hb, Hh⟩
  rw [wp_ret]; imodintro
  -- the SparseCore call
  ihave Hh := (Entails.of_eq (held_W3 m d)) $$ Hh
  icases Hh with ⟨H4, Hrest⟩
  iapply ((K (F := F)).wp_run D 𝒱 (EH := EH) (P := PM m) κ d 0) $$ [Hst HO H4 Hb Hrest Hts]
  isplitr; · iexact Hctx
  isplitl [Hst HO]
  · iapply (Entails.of_eq hR.symm)
    isplitl [HO] <;> iassumption
  isplitl [H4]
  · rw [st0_eq]; iexact H4
  iintro ⟨Hst, Hdn⟩
  ihave H4 := (Entails.of_eq (dn0_eq _ _ _ _ d)) $$ Hdn
  ihave Hh := (Entails.of_eq (held_W4 m d).symm) $$ [H4 Hrest]
  · isplitl [H4] <;> iassumption
  -- the slice
  iapply (wp_hlo_within 𝒱 (SparseCore.T d) none Set.univ (op := cutOp) (S := arrs) cutOp_sub (V := W4 m d)) $$ [Hb Hh]
  · isplitl [Hb] <;> iassumption
  iintro ⟨Hb, Hh⟩
  ihave Hh := (Entails.of_eq (held_W5 m d)) $$ Hh
  icases Hh with ⟨Hh, -⟩
  rw [wp_ret]; imodintro; imodintro
  isplitl [Hst]; · iexact Hst
  isplitl [Hh]; · iexact Hh
  isplitl [Hb] <;> iassumption

set_option backward.isDefEq.respectTransparency.types false in
/-- @main on the TensorCore, from the launch's arrays to the arguments and the result at the last valuation. -/
theorem hmain (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs D) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_W0, main_split]
  iintro ⟨#Hctx, Hst, ⟨Hb, Hh, Hts, -⟩, HG⟩
  iapply (wp_seq 𝒱 none Set.univ d arrs (fun _ => rest d) padOps padOps_sub padOps_fresh (W0 m d)) $$ [Hb Hh]
  · isplitl [Hb] <;> iassumption
  iintro ⟨Hb, Hh⟩
  iapply (rest_wp m κ d)
  isplitr; · iexact Hctx
  isplitl [Hst]; · iexact Hst
  isplitl [Hb]; · iexact Hb
  isplitl [Hh]; · iexact Hh
  isplitl [Hts] <;> iassumption

/-! ## The whole run -/

/-- The ghost state the launch starts with: the handshake's rounds, the pipeline's, no counter. -/
def u₀ : UU := (initOf (K (F := F)).hsCells (K (F := F)).hsToks,
  (initOf (Pipeline.cells (nD := nD) (τ := τ) (Pipeline.pin (pcfgs (F := F)) adm) launch0.cellOf_inj)
    (Pipeline.launchToks (Pipeline.pin (pcfgs (F := F)) adm) launch0.cellOf_inj), 1))

/-- It funds the handshake, the region's ghost state on every device, and nothing for the tiles. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PM m).x q thr) := by
  have hf := Pipeline.fund_ghost (Pipeline.pin (pcfgs (F := F)) adm) (EP (F := F)) launch0.cellOf_inj
  have hx : (bigSep Finset.univ fun thr : Thread nD τ => bigSep Finset.univ fun q : Fin 1 => (PM m).x q thr) = (BI.emp : sProp 𝕄) :=
    (bigSep_congr fun _ _ => bigSep_emp_const _).trans (bigSep_emp_const _)
  have hd (A : Fin 1 → Dev nD → sProp 𝕄) : (bigSep Finset.univ fun c => bigSep Finset.univ fun p => A p c) = bigSep Finset.univ fun c => A 0 c :=
    bigSep_congr fun _ _ => bigSep_univ_of_subsingleton (0 : Fin 1)
  rw [hd, hd] at hf
  rw [hx, bigSep_sep']
  unfold EP at hf ⊢
  unfold u₀
  iintro Hu
  ihave H := (ownU_pair _ _) $$ Hu
  icases H with ⟨HH, HR⟩
  ihave H := (own_pair_emb embR _ _) $$ HR
  icases H with ⟨HP, -⟩
  imod hf $$ HP with ⟨Hc, Ht⟩
  imodintro
  isplitl [HH]; · iexact HH
  isplitl [Hc Ht]
  · isplitl [Hc] <;> iassumption
  iempintro

/-- What the claims read of a device's final memory: the arguments as at launch, the result at the last valuation. -/
def fq (d : Dev nD) (s : Phys nD τ sig (Elt F)) : Prop :=
  s.mem.mem ((SparseCore.T d).loc main_arg0) = m ((SparseCore.T d).loc main_arg0) ∧ s.mem.mem ((SparseCore.T d).loc main_arg1) = m ((SparseCore.T d).loc main_arg1)
    ∧ s.mem.mem ((SparseCore.T d).loc main_arg2) = m ((SparseCore.T d).loc main_arg2) ∧ s.mem.mem ((SparseCore.T d).loc main_arg3) = m ((SparseCore.T d).loc main_arg3)
    ∧ s.mem.mem ((SparseCore.T d).loc main_v10) = W5 m d (dref main_v10)

/-- A buffer held whole at contents `f`, beside a final state, is `f` in that state's memory. -/
theorem read_one (s : Phys nD τ sig (Elt F)) (ℓ : Loc nD τ sig) (f : Buf (Elt F) ℓ) :
    iprop((ℓ ↦{fullShare} f) ∗ SI s) ⊢ iprop(⌜s.mem.mem ℓ = f⌝ ∗ SI s : sProp 𝕄) := by
  iintro ⟨Hx, HSI⟩
  ihave H := (persistent_entails_right (SI_pointsTo_agree (st := s) (ℓ := ℓ) (I := Finset.univ) (q := fullShare) (f := f))) $$ [HSI Hx]
  · isplitl [HSI] <;> iassumption
  icases H with ⟨%h, HSI, -⟩
  isplitr; · ipureintro; exact funext fun i => h i (Finset.mem_univ i)
  iexact HSI

theorem hfin (d : Dev nD) (s : Phys nD τ sig (Elt F)) : iprop(FIN m d ∗ SI s) ⊢ (⌜fq m d s⌝ : sProp 𝕄) := by
  unfold FIN
  rw [held_readSet]
  iintro ⟨⟨H0, H1, H2, H3, H4⟩, HSI⟩
  ihave H := (read_one s _ _) $$ [H0 HSI]; · isplitl [H0] <;> iassumption
  icases H with ⟨%h0, HSI⟩
  ihave H := (read_one s _ _) $$ [H1 HSI]; · isplitl [H1] <;> iassumption
  icases H with ⟨%h1, HSI⟩
  ihave H := (read_one s _ _) $$ [H2 HSI]; · isplitl [H2] <;> iassumption
  icases H with ⟨%h2, HSI⟩
  ihave H := (read_one s _ _) $$ [H3 HSI]; · isplitl [H3] <;> iassumption
  icases H with ⟨%h3, HSI⟩
  ihave H := (read_one s _ _) $$ [H4 HSI]; · isplitl [H4] <;> iassumption
  icases H with ⟨%h4, -⟩
  ipureintro
  refine ⟨h0.trans (W5_of m d main_arg0 ?_ ?_ ?_ ?_ ?_), h1.trans (W5_of m d main_arg1 ?_ ?_ ?_ ?_ ?_), h2.trans (W5_of m d main_arg2 ?_ ?_ ?_ ?_ ?_),
    h3.trans (W5_of m d main_arg3 ?_ ?_ ?_ ?_ ?_), h4⟩ <;> decide

/-- The flat text is the text, read in row-major order. -/
theorem W3_text (d : Dev nD) : W3 m d (dref main_v8) = shapeCast S204800 (m ((SparseCore.T d).loc main_arg0) : S4096x50.Idx → BitVec 32) shapeCasts_S4096x50_S204800 := by
  have h : W2 m d (dref main_arg0) = m ((SparseCore.T d).loc main_arg0) := by
    unfold W2
    rw [Function.update_of_ne (by decide)]
    exact W1_of m d main_arg0 (by decide)
  unfold W3
  refine (StableHlo.reshape_result main_arg0 main_v8 rfl shapeCasts_S4096x50_S204800 _ _ (W2 m d)).trans ?_
  exact congrArg (fun z : S4096x50.Idx → BitVec 32 => shapeCast S204800 z shapeCasts_S4096x50_S204800) h

/-- What the claims read at the end of a run, on every device, and every semaphore back at zero. -/
def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3)
    ∧ r.2.mem ((SparseCore.T d).loc main_v10) = W5 m d (dref main_v10)) ∧ r.2.sem = fun _ => 0

/-- From any memory whose text names rows of the table, every run of the program ends, every access in range, with the arguments as
    at launch and the result at the last valuation. -/
theorem run_main [∀ e, Nonempty (Elt F e)] (hin : ∀ (d : Dev nD) (j : S4096x50.Idx), ((m ((SparseCore.T d).loc main_arg0) : S4096x50.Idx → BitVec 32) j).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ _ facts fun d j => by rw [W3_text]; exact hin d _)
    (fun q _ => match q with | 0 => SparseCore.Cfg.VecSplit.of_plain (vecSplit _ _ _ _))
    m ρ main (fun d => G d) (FIN m) (u₀ (F := F)) (sep_elim_left.trans (hu₀ m)) (hmain m ρ) (fq m) (hfin m) (QC m) (fun _ h hz => ⟨h, hz⟩)

end Host

end Cert.Proof.KI

end
-- ==== Proof.Maths.lean ====
/-
  The two programs' results as functions of the arguments, at the extended reals, and that they are one function where the table and
  the weights are real.
-/
module

public import Idealize.ShloMosaic.PureOps.Ideal
public import Idealize.ShloMosaic.Lib.Pointwise

@[expose] public section

noncomputable section

namespace Cert.Proof.Maths

open Idealize.ShloMosaic

abbrev Text : Shape := ⟨2, ![4096, 50]⟩
abbrev Table : Shape := ⟨2, ![100000, 64]⟩
abbrev Weights : Shape := ⟨2, ![2, 64]⟩
abbrev Bias : Shape := ⟨1, ![2]⟩
abbrev Result : Shape := ⟨2, ![4096, 2]⟩

/-- The row of the table that word `r` of bag `i` names. -/
def row (t : Text.Idx → BitVec 32) (i : Fin 4096) (r : Fin 50) : Fin 100000 := ⟨(t (ix2 i r)).toNat % 100000, Nat.mod_lt _ (by decide)⟩

/-- Row `n` of the table projected on row `j` of the weights. -/
def projected (A : Table.Idx → EReal) (w : Weights.Idx → EReal) (n : Fin 100000) (j : Fin 2) : EReal := ∑ d : Fin 64, A (ix2 n d) * w (ix2 j d)

/-- The kernel's order: project every row, add the fifty projected rows, scale by one fiftieth, add the bias. -/
def projectFirst (t : Text.Idx → BitVec 32) (A : Table.Idx → EReal) (w : Weights.Idx → EReal) (b : Bias.Idx → EReal) : Result.Idx → EReal :=
  fun y => (∑ r : Fin 50, projected A w (row t (y 0) r) (y 1)) * ((50⁻¹ : ℝ) : EReal) + b (ix1 (y 1))

/-- The reference's order: add the fifty rows, divide by fifty, project the mean, add the bias. -/
def meanFirst (t : Text.Idx → BitVec 32) (A : Table.Idx → EReal) (w : Weights.Idx → EReal) (b : Bias.Idx → EReal) : Result.Idx → EReal :=
  fun y => (∑ d : Fin 64, (∑ r : Fin 50, A (ix2 (row t (y 0) r) d)) * ((50⁻¹ : ℝ) : EReal) * w (ix2 (y 1) d)) + b (ix1 (y 1))

/-- A sum of reals, taken among the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Where the table and the weights are real the two orders give one result: over the reals the scale and the projection move through
    the sums. -/
theorem projectFirst_eq_meanFirst (t : Text.Idx → BitVec 32) (A : Table.Idx → EReal) (w : Weights.Idx → EReal) (b : Bias.Idx → EReal)
    (hA : ∀ j, ∃ x : ℝ, A j = (x : EReal)) (hw : ∀ j, ∃ x : ℝ, w j = (x : EReal)) : projectFirst t A w b = meanFirst t A w b := by
  choose A' hA' using hA
  choose w' hw' using hw
  obtain rfl : A = fun j => (A' j : EReal) := funext hA'
  obtain rfl : w = fun j => (w' j : EReal) := funext hw'
  funext y
  unfold projectFirst meanFirst projected
  refine congrArg (· + b (ix1 (y 1))) ?_
  simp only [← EReal.coe_mul, coe_sum]
  refine congrArg _ ?_
  rw [Finset.sum_comm, Finset.sum_mul]
  refine Finset.sum_congr rfl fun d _ => ?_
  rw [← Finset.sum_mul]
  ring

end Cert.Proof.Maths

end
-- ==== Proof.IdealValue.lean ====
/-
  The kernel's result at the extended reals, entry by entry: the padded weights and bias, the projected table, the bags, and the two
  columns cut out at the end.
-/
module

public import proofs.«01_k».proof.Proof.IdealMain
public import Idealize.ShloMosaic.Lib.Pipeline.ValueKit
public import proofs.«01_k».proof.Proof.Maths
public import Idealize.ShloMosaic.Lib.Pointwise
public import Idealize.ShloMosaic.Lib.Pointwise.IndexBridge
public import Idealize.ShloMosaic.Lib.Routing.OpsSet
public import Idealize.ShloMosaic.Lib.Routing.OpsPair

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.ShloMosaic.StableHlo (held held_sub_split held_congr seq after wp_seq wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

/-! ## The projected table -/

/-- The projected table at the extended reals: entry `(r, j)` is the product of the table's row `r` and the padded weights' column `j`. -/
theorem proj_eq (V : Vals Ideal) (c : Dev nD) (A : S100000x64.Idx → EReal) (B : S64x16.Idx → EReal) (hA : V c main_arg1 = A) (hB : V c main_v3 = B) :
    proj V c = fun i => ∑ d : Fin 64, A (ix2 (i 0) d) * B (ix2 d (i 1)) := by
  refine (pdats V 0 c).arrAt_eq_of_covers 2 _ (by decide +kernel) fun t hf y => ?_
  blk_simp
  show k0_pay1 (tabBlk _ _ t) (wBlk _ _ t) _ = _
  idx_vars y
  pointwise [k0_pay1]
  refine Finset.sum_congr rfl fun x _ => ?_
  subst hA hB
  refine Ideal.mul_congr ?_ ?_
  · show V c main_arg1 _ = V c main_arg1 _
    refine congrArg (V c main_arg1) (funext fun a => Fin.ext ?_)
    match a with
    | ⟨0, _⟩ => rfl
    | ⟨1, _⟩ => exact (Pipeline.Window.rect_emb_val_of_index_zero (cfg0.win 0) t _ rfl _)
  · show V c main_v3 _ = V c main_v3 _
    refine congrArg (V c main_v3) (funext fun a => Fin.ext ?_)
    match a with
    | ⟨0, _⟩ => exact (Pipeline.Window.rect_emb_val_of_index_zero (cfg0.win 1) t _ rfl _)
    | ⟨1, _⟩ => exact (Pipeline.Window.rect_emb_val_of_index_zero (cfg0.win 1) t _ rfl _).trans (Pipeline.Window.rect_emb_val_of_index_zero (cfg0.win 2) t (1 : Fin 2) rfl (ix2 y0 y1)).symm

/-- Its entry at a column whose padded weights are row `j` of the weights `w`: row `n` of the table projected on that row. -/
theorem proj_at (V : Vals Ideal) (c : Dev nD) (A : S100000x64.Idx → EReal) (w : S2x64.Idx → EReal) (hA : V c main_arg1 = A) (n : Fin 100000) (j : Fin 2) (k : Fin 16)
    (hw : ∀ x : Fin 64, V c main_v3 (ix2 x k) = w (ix2 j x)) : proj V c (ix2 n k) = Maths.projected A w n j := by
  rw [proj_eq V c A (V c main_v3) hA rfl]
  exact Finset.sum_congr rfl fun x _ => Ideal.mul_congr rfl (hw x)

/-! ## One bag -/

/-- A bag at the extended reals: the sum of its fifty rows times one fiftieth, plus the bias. -/
theorem bag_at (b : S16.Idx → EReal) (v : ℕ → S1x16.Idx → EReal) (j : Fin 16) :
    bag (F := Ideal) b v (ix2 0 j) = (∑ r ∈ Finset.range 50, v r (ix2 0 j)) * ((50⁻¹ : ℝ) : EReal) + b (ix1 j) := by
  unfold bag
  pointwise [k1_pay8, k1_pay7, k1_pay6, k1_pay5, k1_pay4, k1_pay3, k1_pay2]
  simp only [Finset.sum_range_succ, Finset.sum_range_zero, zero_add]
  rw [IdealRules.named_const.ideal_named_scalar κ "fiftieth" _ _ rfl]

/-! ## The padded arrays -/

/-- Setting the first two columns of an array: column `j < 2` of the result is column `j` of the update. -/
theorem scatter_cols {α : Type} (x0 : S64x16.Idx → α) (idx : IVec S1 32) (h0 : ∀ i, idx i = 0#32) (upd : S64x2.Idx → α) (x : Fin 64) (j : Fin 2) :
    Host.scatter scatter_S64x16_S1_S64x2_01_n_1_0 (fun _ b => b) x0 idx upd (ValueIdx.ix2 x (⟨j.val, by omega⟩ : Fin 16)) = upd (ValueIdx.ix2 x j) := by
  have hl : ∀ k : S64x2.Idx, scatter_S64x16_S1_S64x2_01_n_1_0.resultIdx? k idx = some (ValueIdx.ix2 x (⟨j.val, by omega⟩ : Fin 16)) ↔ k = ValueIdx.ix2 x j := by
    intro k
    obtain ⟨a, b, rfl⟩ : ∃ (a : Fin 64) (b : Fin 2), k = ValueIdx.ix2 a b := ⟨k 0, k 1, ValueIdx.eq_ix2 k⟩
    refine (Routing.resultIdx?_ix2 scatter_S64x16_S1_S64x2_01_n_1_0 (ValueIdx.ix2 a b) idx x (⟨j.val, by omega⟩ : Fin 16)).trans ?_
    have s0 : scatter_S64x16_S1_S64x2_01_n_1_0.start (ValueIdx.ix2 a b) idx 0 = 0 := by
      unfold ScatterDims.start
      rw [dif_neg (by decide)]
    have s1 : scatter_S64x16_S1_S64x2_01_n_1_0.start (ValueIdx.ix2 a b) idx 1 = 0 := by
      unfold ScatterDims.start
      rw [dif_pos (by decide), h0]
      rfl
    have w0 : scatter_S64x16_S1_S64x2_01_n_1_0.window (ValueIdx.ix2 a b) 0 = a.val := rfl
    have w1 : scatter_S64x16_S1_S64x2_01_n_1_0.window (ValueIdx.ix2 a b) 1 = b.val := rfl
    rw [s0, s1, w0, w1]
    constructor
    · rintro ⟨h, h'⟩
      have ha : a = x := Fin.ext (by omega)
      have hb : b = j := Fin.ext (by simpa using h')
      rw [ha, hb]
    · intro h
      have ha : a = x := congrFun h 0
      have hb : b = j := congrFun h 1
      subst ha hb
      simp
  exact Routing.scatter_set_hit _ x0 idx upd _ _ (fun k hk => by rw [(hl k).1 hk]) _ ((hl _).2 rfl)

/-- Setting the first two entries of a vector: entry `j < 2` of the result is entry `j` of the update. -/
theorem scatter_head {α : Type} (x0 : S16.Idx → α) (idx : IVec S1 32) (h0 : ∀ i, idx i = 0#32) (upd : S2.Idx → α) (j : Fin 2) :
    Host.scatter scatter_S16_S1_S2_0_n_0_0 (fun _ b => b) x0 idx upd (ValueIdx.ix1 (⟨j.val, by omega⟩ : Fin 16)) = upd (ValueIdx.ix1 j) := by
  have hl : ∀ k : S2.Idx, scatter_S16_S1_S2_0_n_0_0.resultIdx? k idx = some (ValueIdx.ix1 (⟨j.val, by omega⟩ : Fin 16)) ↔ k = ValueIdx.ix1 j := by
    intro k
    obtain ⟨b, rfl⟩ : ∃ b : Fin 2, k = ValueIdx.ix1 b := ⟨k 0, ValueIdx.eq_ix1 k⟩
    refine (Routing.resultIdx?_ix1 scatter_S16_S1_S2_0_n_0_0 (ValueIdx.ix1 b) idx (⟨j.val, by omega⟩ : Fin 16)).trans ?_
    have s0 : scatter_S16_S1_S2_0_n_0_0.start (ValueIdx.ix1 b) idx 0 = 0 := by
      unfold ScatterDims.start
      rw [dif_pos (by decide), h0]
      rfl
    have w0 : scatter_S16_S1_S2_0_n_0_0.window (ValueIdx.ix1 b) 0 = b.val := rfl
    rw [s0, w0]
    constructor
    · intro h
      have hb : b = j := Fin.ext (by simpa using h)
      rw [hb]
    · intro h
      have hb : b = j := congrFun h 0
      subst hb
      simp
  exact Routing.scatter_set_hit _ x0 idx upd _ _ (fun k hk => by rw [(hl k).1 hk]) _ ((hl _).2 rfl)

section Pad

variable (m : (ℓ : Loc nD τ sig) → Buf (Elt Ideal) ℓ)

/-- The padded weights: column `j < 2` is row `j` of the weights. -/
theorem pad_w (d : Dev nD) (x : Fin 64) (j : Fin 2) :
    W1 m d (dref main_v3) (ValueIdx.ix2 x (⟨j.val, by omega⟩ : Fin 16)) = m ((SparseCore.T d).loc main_arg2) (ValueIdx.ix2 j x) := by
  unfold W1 padOps
  after_results_simp
  refine (scatter_cols _ _ (fun _ => rfl) _ x j).trans ?_
  pointwise
  rw [ix2_eq_valueIdx]
  rfl

/-- The padded bias: entry `j < 2` is entry `j` of the bias. -/
theorem pad_b (d : Dev nD) (j : Fin 2) :
    W1 m d (dref main_v6) (ValueIdx.ix1 (⟨j.val, by omega⟩ : Fin 16)) = m ((SparseCore.T d).loc main_arg3) (ValueIdx.ix1 j) := by
  unfold W1 padOps
  after_results_simp
  exact scatter_head _ _ (fun _ => rfl) _ j

end Pad

/-! ## The kernel's result -/

/-- Word `50 i + r` of the text laid out on one axis is word `r` of bag `i`. -/
theorem flat_at (t : S4096x50.Idx → BitVec 32) (i : Fin 4096) (r : Fin 50) :
    shapeCast S204800 t shapeCasts_S4096x50_S204800 (ix1 (⟨(50 * i.val + r.val) % 204800, Nat.mod_lt _ (by decide)⟩ : Fin 204800)) = t (ix2 i r) := by
  pointwise

/-- The reshape writes nothing but the flat text. -/
theorem W3_of (m : (ℓ : Loc nD τ sig) → Buf (Elt Ideal) ℓ) (d : Dev nD) (b : Ref sig .tc) (h8 : dref b ∉ ({dref main_v8} : Finset (DevRef τ sig))) :
    W3 m d (dref b) = W2 m d (dref b) := (flatOp (F := Ideal)).result_of_not_mem (W2 m d) h8

/-- The projected table as the SparseCore call finds it. -/
theorem table_at (m : (ℓ : Loc nD τ sig) → Buf (Elt Ideal) ℓ) (d : Dev nD) (A : S100000x64.Idx → EReal) (w : S2x64.Idx → EReal)
    (hA : m ((SparseCore.T d).loc main_arg1) = A) (hw : m ((SparseCore.T d).loc main_arg2) = w) (n : Fin 100000) (j : Fin 2) :
    W3 m d (dref main_v7) (ix2 n (⟨j.val, by omega⟩ : Fin 16)) = Maths.projected A w n j := by
  subst hA hw
  rw [W3_of m d main_v7 (by decide)]
  have h7 : W2 m d (dref main_v7) = proj (F := Ideal) (fun c b => W1 m c (dref b)) d := by
    unfold W2
    exact Function.update_self ..
  rw [h7]
  refine proj_at _ d _ _ (W1_of m d main_arg1 (by decide)) n j _ fun x => ?_
  have e := pad_w m d x j
  simp only [← ix2_eq_valueIdx] at e
  exact e

/-- The padded bias as the SparseCore call finds it. -/
theorem bias_at (m : (ℓ : Loc nD τ sig) → Buf (Elt Ideal) ℓ) (d : Dev nD) (j : Fin 2) :
    W3 m d (dref main_v6) (ix1 (⟨j.val, by omega⟩ : Fin 16)) = m ((SparseCore.T d).loc main_arg3) (ix1 j) := by
  rw [W3_of m d main_v6 (by decide)]
  have h6 : W2 m d (dref main_v6) = W1 m d (dref main_v6) := by
    unfold W2
    exact Function.update_of_ne (by decide) ..
  rw [h6]
  have e := pad_b m d j
  simp only [← ix1_eq_valueIdx] at e
  exact e

/-- The kernel's result array: it is `projectFirst` of the arguments. -/
theorem result_eq (m : (ℓ : Loc nD τ sig) → Buf (Elt Ideal) ℓ) (d : Dev nD) :
    W5 m d (dref main_v10) = Maths.projectFirst (m ((SparseCore.T d).loc main_arg0)) (m ((SparseCore.T d).loc main_arg1)) (m ((SparseCore.T d).loc main_arg2))
      (m ((SparseCore.T d).loc main_arg3)) := by
  unfold W5
  refine (StableHlo.unary_result ..).trans ?_
  funext y
  idx_vars y
  have h9 : W4 m d (dref main_v9) = out (F := Ideal) (W3 m d (dref main_v7)) (W3 m d (dref main_v8)) (W3 m d (dref main_v6)) := by
    unfold W4
    exact Function.update_self ..
  rw [h9]
  unfold Maths.projectFirst
  pointwise [out]
  rw [← ix2_eq_valueIdx]
  refine (bag_at _ _ _).trans (Ideal.add_congr (Ideal.mul_congr ?_ rfl) ?_)
  · rw [Finset.sum_range]
    refine Finset.sum_congr rfl fun r _ => ?_
    refine Eq.trans ?_ (table_at m d _ _ rfl rfl (Maths.row (m ((SparseCore.T d).loc main_arg0)) y0 r) y1)
    unfold rowOf
    rw [W3_text]
    simp only [← ix2_eq_valueIdx, ← ix1_eq_valueIdx]
    refine congrArg (W3 m d (dref main_v7)) (congrArg₂ ix2 (Fin.ext ?_) rfl)
    exact congrArg (fun w : BitVec 32 => w.toNat % 100000) (flat_at (m ((SparseCore.T d).loc main_arg0)) y0 r)
  · unfold k1_pay1
    pointwise
    exact bias_at m d y1

end Cert.Proof.KI

end
-- ==== Proof.RefValue.lean ====
/-
  The reference's result at the extended reals, entry by entry: where every word of the text names a row of the table the lookup reads
  that row, and what follows is the mean, its projection and the bias.
-/
module

public import proofs.«01_k».proof.Proof.Gen.ReferenceIdeal.Run
public import proofs.«01_k».proof.Proof.Maths
public import Idealize.ShloMosaic.Lib.Pointwise.IndexBridge
public import Idealize.ShloMosaic.Lib.Routing.OpsPair
public import Idealize.ShloMosaic.Lib.ReduceAll
public import Idealize.ShloMosaic.Lib.Affine
public import Idealize.ShloMosaic.Lib.IdealHost

@[expose] public section

noncomputable section

namespace Cert.Proof.Ref

open Cert.ReferenceIdeal Cert.ReferenceIdeal.Gen Idealize.ShloMosaic

/-- The pattern of fifty. -/
theorem ofBits_fifty : Ideal.ofBits .f32 0x42480000#32 = ((50 : ℝ) : EReal) := by
  simp [Ideal.ofBits, Ideal.ieee, -EReal.coe_mul]; norm_num

/-- Division by fifty is multiplication by one fiftieth. -/
theorem div_fifty (x : EReal) : Ideal.div x ((50 : ℝ) : EReal) = x * ((50⁻¹ : ℝ) : EReal) := by
  unfold Ideal.div
  rw [if_neg (by norm_num), ← EReal.coe_inv]

/-- The lookup's index words are the text: a word below the number of rows is not negative, so nothing is added to it. -/
theorem words_eq (t : S4096x50.Idx → BitVec 32) (ht : ∀ j, (t j).toNat < 100000) (a : S4096x50.Idx → BitVec 32) :
    select (cmpi .slt t (broadcastInDim S4096x50 ![] bcast_S_S4096x50 (constantI S_ 32 0#32))) a t = t :=
  funext fun j => Routing.wrap_of_lt (t j) (a j) (by have := ht j; omega)

/-- The lookup's bounds check passes at every word. -/
theorem inBounds (t : S4096x50.Idx → BitVec 32) (ht : ∀ j, (t j).toNat < 100000) :
    Host.reduce IntOp.andi (andi (cmpi .sge (broadcastInDim S4096x50x1 ![0, 1] bcast_S4096x50_S4096x50x1_0_1 t) (broadcastInDim S4096x50x1 ![] bcast_S_S4096x50x1 (constantI S_ 32 0#32)))
        (cmpi .sle (broadcastInDim S4096x50x1 ![0, 1] bcast_S4096x50_S4096x50x1_0_1 t)
          (broadcastInDim S4096x50x1 ![0, 1, 2] bcast_S1x1x1_S4096x50x1_0_1_2 (broadcastInDim S1x1x1 ![2] bcast_S1_S1x1x1_2 (constantI S1 32 99999#32)))))
      (constantI S_ 1 1#1) reducesTo_S4096x50x1_S4096x50_d2 h_S_ = fun _ => 1#1 := by
  funext j
  refine Host.reduce_andi_one _ _ _ _ j rfl fun i => ?_
  generalize hw : broadcastInDim S4096x50x1 ![0, 1] bcast_S4096x50_S4096x50x1_0_1 t = T
  have hT : (T i).toNat < 100000 := by rw [← hw]; exact ht _
  have hi : (T i).toInt = (T i).toNat := by rw [BitVec.toInt_eq_toNat_cond, if_pos (by omega)]
  refine IntOp.andi_eq_one.2 ⟨IntOp.cmpi_sge.2 ?_, IntOp.cmpi_sle.2 ?_⟩
  · show (0#32 : BitVec 32).toInt ≤ _
    rw [hi, show (0#32 : BitVec 32).toInt = 0 from by decide]; omega
  · show _ ≤ (99999#32 : BitVec 32).toInt
    rw [hi, show (99999#32 : BitVec 32).toInt = 99999 from by decide]; omega

/-- The gather reads, for word `r` of bag `i`, the row of the table that the word names. -/
theorem gather_at {α : Type} (t : S4096x50.Idx → BitVec 32) (ht : ∀ j, (t j).toNat < 100000) (A : S100000x64.Idx → α) (i : Fin 4096) (r : Fin 50) (d : Fin 64) :
    Host.gather gather_S100000x64_S4096x50x1_S4096x50x64_2_0_n_n_0_2_164 A (broadcastInDim S4096x50x1 ![0, 1] bcast_S4096x50_S4096x50x1_0_1 t) (ix3 i r d)
      = A (ix2 (Maths.row t i r) d) := by
  have hw := ht (ix2 i r)
  have hrow : (Maths.row t i r).val = (t (ix2 i r)).toNat := Nat.mod_eq_of_lt hw
  have hint : (t (ix2 i r)).toInt.toNat = (t (ix2 i r)).toNat := by rw [BitVec.toInt_eq_toNat_cond, if_pos (by omega)]; rfl
  unfold Host.gather
  refine congrArg A (funext fun a => Fin.ext ?_)
  generalize hT : broadcastInDim S4096x50x1 ![0, 1] bcast_S4096x50_S4096x50x1_0_1 t = T
  have hTt : T (ix3 i r (0 : Fin 1)) = t (ix2 i r) := by
    rw [← hT]
    refine congrArg t (funext fun a => ?_)
    match a with
    | ⟨0, _⟩ => rfl
    | ⟨1, _⟩ => rfl
  match a with
  | ⟨0, _⟩ =>
    have hstart : gather_S100000x64_S4096x50x1_S4096x50x64_2_0_n_n_0_2_164.start (ix3 i r d) T 0 = min (T (ix3 i r (0 : Fin 1))).toInt.toNat 99999 := by
      unfold GatherDims.start
      rw [dif_pos (by decide)]
      refine congrArg (fun k => min (T k).toInt.toNat 99999) (funext fun b => Fin.ext ?_)
      match b with
      | ⟨0, _⟩ => rfl
      | ⟨1, _⟩ => rfl
      | ⟨2, _⟩ => rfl
    show gather_S100000x64_S4096x50x1_S4096x50x64_2_0_n_n_0_2_164.start (ix3 i r d) T 0 + 0 + 0 = (Maths.row t i r).val
    rw [hstart, hTt, hint, hrow]
    omega
  | ⟨1, _⟩ =>
    have hstart : gather_S100000x64_S4096x50x1_S4096x50x64_2_0_n_n_0_2_164.start (ix3 i r d) T 1 = 0 := by
      unfold GatherDims.start
      rw [dif_neg (by decide)]
    show gather_S100000x64_S4096x50x1_S4096x50x64_2_0_n_n_0_2_164.start (ix3 i r d) T 1 + 0 + d.val = d.val
    rw [hstart]
    omega

/-- The reference's result: it is `meanFirst` of the arguments. -/
theorem result_eq (t : S4096x50.Idx → BitVec 32) (ht : ∀ j, (t j).toNat < 100000) (A : S100000x64.Idx → EReal) (w : S2x64.Idx → EReal) (b : S2.Idx → EReal) :
    addf (F := Ideal) (φ := .f32) (Host.dotGeneral (F := Ideal) (φ₁ := .f32) (φ₂ := .f32) dot_S4096x64_S64x2_S4096x2_1_0_0_1_n_n none (Host.divf (Host.reduceAdd (select (broadcastInDim S4096x50x64 ![0, 1] bcast_S4096x50_S4096x50x64_0_1 (Host.reduce IntOp.andi (andi (cmpi .sge (broadcastInDim S4096x50x1 ![0, 1] bcast_S4096x50_S4096x50x1_0_1 (select (cmpi .slt t (broadcastInDim S4096x50 ![] bcast_S_S4096x50 (constantI S_ 32 0#32))) (addi t (broadcastInDim S4096x50 ![] bcast_S_S4096x50 (constantI S_ 32 100000#32))) t)) (broadcastInDim S4096x50x1 ![] bcast_S_S4096x50x1 (constantI S_ 32 0#32))) (cmpi .sle (broadcastInDim S4096x50x1 ![0, 1] bcast_S4096x50_S4096x50x1_0_1 (select (cmpi .slt t (broadcastInDim S4096x50 ![] bcast_S_S4096x50 (constantI S_ 32 0#32))) (addi t (broadcastInDim S4096x50 ![] bcast_S_S4096x50 (constantI S_ 32 100000#32))) t)) (broadcastInDim S4096x50x1 ![0, 1, 2] bcast_S1x1x1_S4096x50x1_0_1_2 (broadcastInDim S1x1x1 ![2] bcast_S1_S1x1x1_2 (constantI S1 32 99999#32))))) (constantI S_ 1 1#1) reducesTo_S4096x50x1_S4096x50_d2 h_S_)) (Host.gather gather_S100000x64_S4096x50x1_S4096x50x64_2_0_n_n_0_2_164 A (broadcastInDim S4096x50x1 ![0, 1] bcast_S4096x50_S4096x50x1_0_1 (select (cmpi .slt t (broadcastInDim S4096x50 ![] bcast_S_S4096x50 (constantI S_ 32 0#32))) (addi t (broadcastInDim S4096x50 ![] bcast_S_S4096x50 (constantI S_ 32 100000#32))) t))) (broadcastInDim S4096x50x64 ![] bcast_S_S4096x50x64 (constant S_ .f32 0x7FC00000#32))) (constant S_ .f32 0x00000000#32) reducesTo_S4096x50x64_S4096x64_d1 h_S_) (broadcastInDim S4096x64 ![] bcast_S_S4096x64 (constant S_ .f32 0x42480000#32))) (transpose S64x2 [1, 0] w transposes_S2x64_S64x2_1_0)) (broadcastInDim S4096x2 ![0, 1] bcast_S1x2_S4096x2_0_1 (broadcastInDim S1x2 ![1] bcast_S2_S1x2_1 b))
      = Maths.meanFirst t A w b := by
  rw [words_eq t ht, inBounds t ht]
  have hg := gather_at t ht A
  revert hg
  generalize Host.gather gather_S100000x64_S4096x50x1_S4096x50x64_2_0_n_n_0_2_164 A (broadcastInDim S4096x50x1 ![0, 1] bcast_S4096x50_S4096x50x1_0_1 t) = G
  intro hg
  funext y
  idx_vars y
  unfold Maths.meanFirst
  pointwise
  simp only [hg, ofBits_fifty, div_fifty]

end Cert.Proof.Ref

end
-- ==== Proof.Pre.lean ====
/-
  What the two preconditions say of the arguments: every word of the text names a row of the table, and, in the second, every
  entry of the table and of the weights is a real.
-/
module

public import proofs.«01_k».proof.Defs
public import proofs.«01_k».proof.Proof.Gen.Pre_text_in_vocab
public import proofs.«01_k».proof.Proof.Gen.Pre_text_in_vocab_and_finite
public import Idealize.ShloMosaic.Lib.ReduceAll
public import Idealize.ShloMosaic.Lib.Affine
public import Idealize.ShloMosaic.Lib.IdealHost
public import Idealize.ShloMosaic.Lib.StableHlo.Predicate

@[expose] public section

noncomputable section

namespace Cert.Proof.Pre

open Idealize.ShloMosaic

/-- A word that is, read signed, at least 0 and below 100000 is below 100000 read unsigned. -/
theorem word_lt (w : BitVec 32) (h0 : IntOp.cmpi .sge w 0#32 = 1#1) (h1 : IntOp.cmpi .slt w 100000#32 = 1#1) : w.toNat < 100000 := by
  have a := IntOp.cmpi_sge.1 h0
  have b := IntOp.cmpi_slt.1 h1
  rw [show (0#32 : BitVec 32).toInt = 0 from by decide] at a
  rw [show (100000#32 : BitVec 32).toInt = 100000 from by decide] at b
  rw [BitVec.toInt_eq_toNat_cond] at a b
  split at a <;> omega

/-- The text's precondition: every word of the text is below the table's number of rows. -/
theorem text_lt {F : FTy → Type} [FloatOps F] (a0 : IVec Cert.Pre_text_in_vocab.S4096x50 32) (a1 : FVec F Cert.Pre_text_in_vocab.S100000x64 .f32)
    (a2 : FVec F Cert.Pre_text_in_vocab.S2x64 .f32) (a3 : FVec F Cert.Pre_text_in_vocab.S2 .f32) (h : Cert.Pre_text_in_vocab.fn a0 a1 a2 a3 = fun _ => 1#1)
    (j : Cert.Pre_text_in_vocab.S4096x50.Idx) : (a0 j).toNat < 100000 := by
  have e := Host.reduce_andi_all _ _ _ _ _ (congrFun h (fun a => a.elim0)) j
  obtain ⟨h0, h1⟩ := IntOp.andi_eq_one.1 e
  exact word_lt _ h0 h1

/-- An extended real whose absolute value is below the infinite word is a real. -/
theorem real_of_abs_lt (x : Ideal .f32) (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : BitVec.ofBool (decide (max (x : EReal) (-x) < Ideal.ofBits .f32 0x7F800000#32)) = 1#1 := h
  rw [htop, StableHlo.Predicate.ofBool_eq_one_iff, decide_eq_true_eq, max_lt_iff] at h'
  obtain ⟨h1, h2⟩ := h'
  refine ⟨(x : EReal).toReal, (EReal.coe_toReal h1.ne fun hb => ?_).symm⟩
  rw [hb] at h2
  exact absurd h2 (by simp)

/-- The second precondition: the words of the text are below the table's number of rows, and the table and the weights are real. -/
theorem text_lt_and_real (a0 : IVec Cert.Pre_text_in_vocab_and_finite.S4096x50 32) (a1 : FVec Ideal Cert.Pre_text_in_vocab_and_finite.S100000x64 .f32)
    (a2 : FVec Ideal Cert.Pre_text_in_vocab_and_finite.S2x64 .f32) (a3 : FVec Ideal Cert.Pre_text_in_vocab_and_finite.S2 .f32)
    (h : Cert.Pre_text_in_vocab_and_finite.fn a0 a1 a2 a3 = fun _ => 1#1) :
    (∀ j, (a0 j).toNat < 100000) ∧ (∀ j, ∃ r : ℝ, (a1 j : EReal) = (r : EReal)) ∧ ∀ j, ∃ r : ℝ, (a2 j : EReal) = (r : EReal) := by
  have e := congrFun h (fun a => a.elim0)
  obtain ⟨e, e2⟩ := IntOp.andi_eq_one.1 e
  obtain ⟨e0, e1⟩ := IntOp.andi_eq_one.1 e
  refine ⟨fun j => ?_, fun j => ?_, fun j => ?_⟩
  · obtain ⟨h0, h1⟩ := IntOp.andi_eq_one.1 (Host.reduce_andi_all _ _ _ _ _ e0 j)
    exact word_lt _ h0 h1
  · exact real_of_abs_lt _ (Host.reduce_andi_all _ _ _ _ _ e1 j)
  · exact real_of_abs_lt _ (Host.reduce_andi_all _ _ _ _ _ e2 j)

end Cert.Proof.Pre

end
-- ==== Proof.lean ====
/-
  The certificate: each claim of Cert.Claim, from the runs of the two programs, the values of their results, and the equation between
  the two values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_text_in_vocab
public import proofs.«01_k».proof.Proof.Gen.Pre_text_in_vocab_and_finite
public import proofs.«01_k».proof.Proof.Gen.ReferenceIdeal.Run
public import proofs.«01_k».proof.Proof.KernMain
public import proofs.«01_k».proof.Proof.IdealValue
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_text_in_vocab.Facts := Cert.Pre_text_in_vocab.Gen.facts
local instance : Cert.Pre_text_in_vocab_and_finite.Facts := Cert.Pre_text_in_vocab_and_finite.Gen.facts

/-- The kernel's frame: where the text names rows of the table, it runs, leaves its arguments as they were and every counter at zero. -/
theorem frame_kernel : Cert.quiescent_Kernel := fun m ρ hpre =>
  (θ_run _ _ _).mono (fun _ h => ⟨fun c => ⟨(h.1 c).1, (h.1 c).2.1, (h.1 c).2.2.1, (h.1 c).2.2.2.1⟩, h.2⟩)
    (KF.run_main (F := Bits) m ρ fun d j => Pre.text_lt _ _ _ _ (hpre d) j)

/-- The ideal kernel's frame, under the range of the text alone. -/
theorem frame_ideal : Cert.quiescent_KernelIdeal := fun m ρ hpre =>
  (θ_run _ _ _).mono (fun _ h => ⟨fun c => ⟨(h.1 c).1, (h.1 c).2.1, (h.1 c).2.2.1, (h.1 c).2.2.2.1⟩, h.2⟩)
    (KI.run_main (F := Ideal) m ρ fun d j => Pre.text_lt _ _ _ _ (hpre d) j)

/-- The ideal kernel's frame, under the range of the text and the finiteness of the table and the weights. -/
theorem frame_ideal_finite : Cert.quiescent_KernelIdeal_pre_text_in_vocab_and_finite := fun m ρ hpre =>
  (θ_run _ _ _).mono (fun _ h => ⟨fun c => ⟨(h.1 c).1, (h.1 c).2.1, (h.1 c).2.2.1, (h.1 c).2.2.2.1⟩, h.2⟩)
    (KI.run_main (F := Ideal) m ρ fun d j => (Pre.text_lt_and_real _ _ _ _ (hpre d)).1 j)

/-- The reference's frame, from every memory. -/
theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The named constant stands for the kernel's word of one fiftieth. -/
theorem preserved : Cert.preserves_Kernel_KernelIdeal :=
  IdealRules.named_const.statement Cert.KernelIdeal.κ "fiftieth" .f32 0x3CA3D70A#32 ((50⁻¹ : ℝ) : EReal) rfl

/-- Kernel and reference end with one result over the extended reals: the kernel's is the sum of the projected rows, scaled and with
    the bias added; the reference's is the mean projected, with the bias added; and over finite tables and weights the two are one. -/
theorem equal_results : Cert.algebraic_KernelIdeal_ReferenceIdeal_pre_text_in_vocab_and_finite := by
  intro m ρ m' ρ' hpre hagree
  have hp := fun d => Pre.text_lt_and_real _ _ _ _ (hpre d)
  refine ⟨fun c => Maths.projectFirst (m ((SparseCore.T c).loc Cert.KernelIdeal.main_arg0)) (m ((SparseCore.T c).loc Cert.KernelIdeal.main_arg1))
      (m ((SparseCore.T c).loc Cert.KernelIdeal.main_arg2)) (m ((SparseCore.T c).loc Cert.KernelIdeal.main_arg3)), ?_, ?_⟩
  · exact (θ_run _ _ _).mono
      (fun _ h c => ⟨(h.1 c).2.2.2.2.trans (KI.result_eq m c), (h.1 c).1, (h.1 c).2.1, (h.1 c).2.2.1, (h.1 c).2.2.2.1⟩)
      (KI.run_main (F := Ideal) m ρ fun d j => (hp d).1 j)
  · refine (θ_run _ _ _).mono (fun _ h c => ⟨(h c).1.trans ?_, (h c).2⟩) (Cert.ReferenceIdeal.Value.run (F := Ideal) m' ρ')
    obtain ⟨e0, e1, e2, e3⟩ := hagree c
    rw [e0, e1, e2, e3]
    exact (Ref.result_eq _ (hp c).1 _ _ _).trans (Maths.projectFirst_eq_meanFirst _ _ _ _ (hp c).2.1 (hp c).2.2).symm

/-- Every claim of the certificate. -/
theorem claim : Cert.Claim :=
  ⟨Cert.Kernel.Gen.facts, Cert.KernelIdeal.Gen.facts, Cert.ReferenceIdeal.Gen.facts, Cert.Pre_text_in_vocab.Gen.facts, Cert.Pre_text_in_vocab_and_finite.Gen.facts,
    frame_kernel, frame_ideal, frame_ideal_finite, frame_reference, fun m ρ _ => frame_reference m ρ trivial, preserved, equal_results⟩

end Cert.Proof

end
